-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sobel_weights [hPre_sobel_weights : Cert.Pre_sobel_weights.Facts] (m : (ℓ : Loc Cert.KernelIdeal.nD Cert.KernelIdeal.τ Cert.KernelIdeal.sig) → Buf (Elt Ideal) ℓ) : Prop :=
  ∀ c : Dev Cert.KernelIdeal.nD,
    (Cert.Pre_sobel_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sobel_weights [hPre_sobel_weights : Cert.Pre_sobel_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sobel_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sobel_weights [hKernelIdeal : Cert.KernelIdeal.Facts] [hPre_sobel_weights : Cert.Pre_sobel_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sobel_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sobel_weights [hReferenceIdeal : Cert.ReferenceIdeal.Facts] [hPre_sobel_weights : Cert.Pre_sobel_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sobel_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_clear_of_edges_pre_sobel_weights [hKernelIdeal : Cert.KernelIdeal.Facts] [hReferenceIdeal : Cert.ReferenceIdeal.Facts] [hPre_sobel_weights : Cert.Pre_sobel_weights.Facts] [hOn_clear_of_edges : Cert.On_clear_of_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sobel_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 576, 108]⟩ : Shape).Idx, (Cert.On_clear_of_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 576, 108]⟩ : Shape).Idx, (Cert.On_clear_of_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v201) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sobel_weights : Cert.Pre_sobel_weights.Facts) (hOn_clear_of_edges : Cert.On_clear_of_edges.Facts),
    quiescent_Kernel (hKernel := hKernel)
    ∧ quiescent_KernelIdeal (hKernelIdeal := hKernelIdeal)
    ∧ quiescent_KernelIdeal_pre_sobel_weights (hKernelIdeal := hKernelIdeal) (hPre_sobel_weights := hPre_sobel_weights)
    ∧ quiescent_ReferenceIdeal (hReferenceIdeal := hReferenceIdeal)
    ∧ quiescent_ReferenceIdeal_pre_sobel_weights (hReferenceIdeal := hReferenceIdeal) (hPre_sobel_weights := hPre_sobel_weights)
    ∧ preserves_Kernel_KernelIdeal
    ∧ algebraic_KernelIdeal_ReferenceIdeal_on_clear_of_edges_pre_sobel_weights (hKernelIdeal := hKernelIdeal) (hReferenceIdeal := hReferenceIdeal) (hPre_sobel_weights := hPre_sobel_weights) (hOn_clear_of_edges := hOn_clear_of_edges)
-- ==== On_clear_of_edges.lean ====
abbrev S16x3x384x384 : Shape := ⟨4, ![16, 3, 384, 384]⟩
abbrev S3x1x3x3 : Shape := ⟨4, ![3, 1, 3, 3]⟩
abbrev S_ : Shape := ⟨0, ![]⟩
abbrev S16x3x1x384 : Shape := ⟨4, ![16, 3, 1, 384]⟩
abbrev S16x3x385x384 : Shape := ⟨4, ![16, 3, 385, 384]⟩
abbrev S16x3x386x384 : Shape := ⟨4, ![16, 3, 386, 384]⟩
abbrev S16x3x386x1 : Shape := ⟨4, ![16, 3, 386, 1]⟩
abbrev S16x3x386x385 : Shape := ⟨4, ![16, 3, 386, 385]⟩
abbrev S16x3x386x386 : Shape := ⟨4, ![16, 3, 386, 386]⟩
abbrev S3x1x1x1 : Shape := ⟨4, ![3, 1, 1, 1]⟩
abbrev S3 : Shape := ⟨1, ![3]⟩
abbrev S1x3x1x1 : Shape := ⟨4, ![1, 3, 1, 1]⟩
abbrev S16x3x48x8x48x8 : Shape := ⟨6, ![16, 3, 48, 8, 48, 8]⟩
abbrev S16x3x48x48 : Shape := ⟨4, ![16, 3, 48, 48]⟩
abbrev S16x3x24x2x24x2 : Shape := ⟨6, ![16, 3, 24, 2, 24, 2]⟩
abbrev S16x24x24x3x2x2 : Shape := ⟨6, ![16, 24, 24, 3, 2, 2]⟩
abbrev S16x576x3x1x4 : Shape := ⟨5, ![16, 576, 3, 1, 4]⟩
abbrev S16x576x3x9x4 : Shape := ⟨5, ![16, 576, 3, 9, 4]⟩
abbrev S16x576x108 : Shape := ⟨3, ![16, 576, 108]⟩

class Facts : Prop where
  slices_S16x3x384x384_S16x3x1x384_0_0_0_0 : S16x3x384x384.Slices ![0, 0, 0, 0] S16x3x1x384
  slices_S16x3x384x384_S16x3x1x384_0_0_1_0 : S16x3x384x384.Slices ![0, 0, 1, 0] S16x3x1x384
  concatenates_S16x3x1x384_S16x3x384x384_S16x3x385x384_d2 : Shape.Concatenates [S16x3x1x384, S16x3x384x384] S16x3x385x384 2
  slices_S16x3x385x384_S16x3x1x384_0_0_384_0 : S16x3x385x384.Slices ![0, 0, 384, 0] S16x3x1x384
  slices_S16x3x385x384_S16x3x1x384_0_0_383_0 : S16x3x385x384.Slices ![0, 0, 383, 0] S16x3x1x384
  concatenates_S16x3x385x384_S16x3x1x384_S16x3x386x384_d2 : Shape.Concatenates [S16x3x385x384, S16x3x1x384] S16x3x386x384 2
  slices_S16x3x386x384_S16x3x386x1_0_0_0_0 : S16x3x386x384.Slices ![0, 0, 0, 0] S16x3x386x1
  slices_S16x3x386x384_S16x3x386x1_0_0_0_1 : S16x3x386x384.Slices ![0, 0, 0, 1] S16x3x386x1
  concatenates_S16x3x386x1_S16x3x386x384_S16x3x386x385_d3 : Shape.Concatenates [S16x3x386x1, S16x3x386x384] S16x3x386x385 3
  slices_S16x3x386x385_S16x3x386x1_0_0_0_384 : S16x3x386x385.Slices ![0, 0, 0, 384] S16x3x386x1
  slices_S16x3x386x385_S16x3x386x1_0_0_0_383 : S16x3x386x385.Slices ![0, 0, 0, 383] S16x3x386x1
  concatenates_S16x3x386x385_S16x3x386x1_S16x3x386x386_d3 : Shape.Concatenates [S16x3x386x385, S16x3x386x1] S16x3x386x386 3
  slices_S3x1x3x3_S3x1x1x1_0_0_0_0 : S3x1x3x3.Slices ![0, 0, 0, 0] S3x1x1x1
  shapeCasts_S3x1x1x1_S3 : S3x1x1x1.ShapeCasts S3
  bcast_S3_S1x3x1x1_1 : S3.BroadcastsInDim S1x3x1x1 (![1] : Fin 1 → Fin S1x3x1x1.rank)
  slices_S16x3x386x386_S16x3x384x384_0_0_0_0 : S16x3x386x386.Slices ![0, 0, 0, 0] S16x3x384x384
  bcast_S1x3x1x1_S16x3x384x384_0_1_2_3 : S1x3x1x1.BroadcastsInDim S16x3x384x384 (![0, 1, 2, 3] : Fin 4 → Fin S16x3x384x384.rank)
  bcast_S_S16x3x384x384 : S_.BroadcastsInDim S16x3x384x384 (![] : Fin 0 → Fin S16x3x384x384.rank)
  slices_S3x1x3x3_S3x1x1x1_0_0_0_1 : S3x1x3x3.Slices ![0, 0, 0, 1] S3x1x1x1
  slices_S16x3x386x386_S16x3x384x384_0_0_0_1 : S16x3x386x386.Slices ![0, 0, 0, 1] S16x3x384x384
  slices_S3x1x3x3_S3x1x1x1_0_0_0_2 : S3x1x3x3.Slices ![0, 0, 0, 2] S3x1x1x1
  slices_S16x3x386x386_S16x3x384x384_0_0_0_2 : S16x3x386x386.Slices ![0, 0, 0, 2] S16x3x384x384
  slices_S3x1x3x3_S3x1x1x1_0_0_1_0 : S3x1x3x3.Slices ![0, 0, 1, 0] S3x1x1x1
  slices_S16x3x386x386_S16x3x384x384_0_0_1_0 : S16x3x386x386.Slices ![0, 0, 1, 0] S16x3x384x384
  slices_S3x1x3x3_S3x1x1x1_0_0_1_1 : S3x1x3x3.Slices ![0, 0, 1, 1] S3x1x1x1
  slices_S16x3x386x386_S16x3x384x384_0_0_1_1 : S16x3x386x386.Slices ![0, 0, 1, 1] S16x3x384x384
  slices_S3x1x3x3_S3x1x1x1_0_0_1_2 : S3x1x3x3.Slices ![0, 0, 1, 2] S3x1x1x1
  slices_S16x3x386x386_S16x3x384x384_0_0_1_2 : S16x3x386x386.Slices ![0, 0, 1, 2] S16x3x384x384
  slices_S3x1x3x3_S3x1x1x1_0_0_2_0 : S3x1x3x3.Slices ![0, 0, 2, 0] S3x1x1x1
  slices_S16x3x386x386_S16x3x384x384_0_0_2_0 : S16x3x386x386.Slices ![0, 0, 2, 0] S16x3x384x384
  slices_S3x1x3x3_S3x1x1x1_0_0_2_1 : S3x1x3x3.Slices ![0, 0, 2, 1] S3x1x1x1
  slices_S16x3x386x386_S16x3x384x384_0_0_2_1 : S16x3x386x386.Slices ![0, 0, 2, 1] S16x3x384x384
  slices_S3x1x3x3_S3x1x1x1_0_0_2_2 : S3x1x3x3.Slices ![0, 0, 2, 2] S3x1x1x1
  slices_S16x3x386x386_S16x3x384x384_0_0_2_2 : S16x3x386x386.Slices ![0, 0, 2, 2] S16x3x384x384
  shapeCasts_S16x3x384x384_S16x3x48x8x48x8 : S16x3x384x384.ShapeCasts S16x3x48x8x48x8
  reducesTo_S16x3x48x8x48x8_S16x3x48x48_d3_5 : S16x3x48x8x48x8.ReducesTo [3, 5] S16x3x48x48
  h_S_ : 0 < S_.numel
  shapeCasts_S16x3x48x48_S16x3x24x2x24x2 : S16x3x48x48.ShapeCasts S16x3x24x2x24x2
  transposes_S16x3x24x2x24x2_S16x24x24x3x2x2_0_2_4_1_3_5 : S16x3x24x2x24x2.Transposes [0, 2, 4, 1, 3, 5] S16x24x24x3x2x2
  shapeCasts_S16x24x24x3x2x2_S16x576x3x1x4 : S16x24x24x3x2x2.ShapeCasts S16x576x3x1x4
  bcast_S16x576x3x1x4_S16x576x3x9x4_0_1_2_3_4 : S16x576x3x1x4.BroadcastsInDim S16x576x3x9x4 (![0, 1, 2, 3, 4] : Fin 5 → Fin S16x576x3x9x4.rank)
  shapeCasts_S16x576x3x9x4_S16x576x108 : S16x576x3x9x4.ShapeCasts S16x576x108

variable [Facts]

def fn_flip {F : FTy → Type} [FloatOps F] (arg0 : FVec F S16x3x1x384 .f32) : FVec F S16x3x1x384 .f32 :=
  let v0 : FVec F S16x3x1x384 .f32 := Host.reverse [2] arg0
  v0

def fn_flip_0 {F : FTy → Type} [FloatOps F] (arg0 : FVec F S16x3x386x1 .f32) : FVec F S16x3x386x1 .f32 :=
  let v0 : FVec F S16x3x386x1 .f32 := Host.reverse [3] arg0
  v0

def fn_pad {F : FTy → Type} [FloatOps F] (arg0 : FVec F S16x3x384x384 .f32) (arg1 : IVec S_ 32) : FVec F S16x3x386x386 .f32 :=
  let v0 : FVec F S16x3x1x384 .f32 := (extractStridedSlice S16x3x1x384 ![0, 0, 0, 0] · slices_S16x3x384x384_S16x3x1x384_0_0_0_0) arg0
  let v1 : FVec F S16x3x1x384 .f32 := (extractStridedSlice S16x3x1x384 ![0, 0, 1, 0] · slices_S16x3x384x384_S16x3x1x384_0_0_1_0) arg0
  let v2 : FVec F S16x3x1x384 .f32 := fn_flip (F := F) v1
  let v3 : FVec F S16x3x385x384 .f32 := (fun a b => concatenate S16x3x385x384 2 [⟨S16x3x1x384, a⟩, ⟨S16x3x384x384, b⟩] concatenates_S16x3x1x384_S16x3x384x384_S16x3x385x384_d2) v2 arg0
  let v4 : FVec F S16x3x1x384 .f32 := (extractStridedSlice S16x3x1x384 ![0, 0, 384, 0] · slices_S16x3x385x384_S16x3x1x384_0_0_384_0) v3
  let v5 : FVec F S16x3x1x384 .f32 := (extractStridedSlice S16x3x1x384 ![0, 0, 383, 0] · slices_S16x3x385x384_S16x3x1x384_0_0_383_0) v3
  let v6 : FVec F S16x3x1x384 .f32 := fn_flip (F := F) v5
  let v7 : FVec F S16x3x386x384 .f32 := (fun a b => concatenate S16x3x386x384 2 [⟨S16x3x385x384, a⟩, ⟨S16x3x1x384, b⟩] concatenates_S16x3x385x384_S16x3x1x384_S16x3x386x384_d2) v3 v6
  let v8 : FVec F S16x3x386x1 .f32 := (extractStridedSlice S16x3x386x1 ![0, 0, 0, 0] · slices_S16x3x386x384_S16x3x386x1_0_0_0_0) v7
  let v9 : FVec F S16x3x386x1 .f32 := (extractStridedSlice S16x3x386x1 ![0, 0, 0, 1] · slices_S16x3x386x384_S16x3x386x1_0_0_0_1) v7
  let v10 : FVec F S16x3x386x1 .f32 := fn_flip_0 (F := F) v9
  let v11 : FVec F S16x3x386x385 .f32 := (fun a b => concatenate S16x3x386x385 3 [⟨S16x3x386x1, a⟩, ⟨S16x3x386x384, b⟩] concatenates_S16x3x386x1_S16x3x386x384_S16x3x386x385_d3) v10 v7
  let v12 : FVec F S16x3x386x1 .f32 := (extractStridedSlice S16x3x386x1 ![0, 0, 0, 384] · slices_S16x3x386x385_S16x3x386x1_0_0_0_384) v11
  let v13 : FVec F S16x3x386x1 .f32 := (extractStridedSlice S16x3x386x1 ![0, 0, 0, 383] · slices_S16x3x386x385_S16x3x386x1_0_0_0_383) v11
  let v14 : FVec F S16x3x386x1 .f32 := fn_flip_0 (F := F) v13
  let v15 : FVec F S16x3x386x386 .f32 := (fun a b => concatenate S16x3x386x386 3 [⟨S16x3x386x385, a⟩, ⟨S16x3x386x1, b⟩] concatenates_S16x3x386x385_S16x3x386x1_S16x3x386x386_d3) v11 v14
  v15

def fn_part11 {F : FTy → Type} [FloatOps F] (main_v130 : FVec F S16x3x384x384 .f32) (main_v222 : IVec S16x3x384x384 1) (main_v227 : FVec F S_ .f32) : IVec S16x576x108 1 :=
  let main_cst_34 : FVec F S_ .f32 := constant S_ .f32 0xC02FD6AC#32
  let main_v228 : FVec F S_ .f32 := minimumf main_v227 main_cst_34
  let main_v229 : FVec F S16x3x384x384 .f32 := broadcastInDim S16x3x384x384 ![] bcast_S_S16x3x384x384 main_v228
  let main_v230 : IVec S16x3x384x384 1 := cmpf .olt main_v229 main_v130
  let main_cst_35 : FVec F S_ .f32 := constant S_ .f32 0xC02FD6AC#32
  let main_v231 : FVec F S_ .f32 := maximumf main_v227 main_cst_35
  let main_v232 : FVec F S16x3x384x384 .f32 := broadcastInDim S16x3x384x384 ![] bcast_S_S16x3x384x384 main_v231
  let main_v233 : IVec S16x3x384x384 1 := cmpf .ole main_v130 main_v232
  let main_v234 : IVec S16x3x384x384 1 := andi main_v230 main_v233
  let main_v235 : IVec S16x3x384x384 1 := ori main_v222 main_v234
  let main_v236 : IVec S16x3x48x8x48x8 1 := shapeCast S16x3x48x8x48x8 main_v235 shapeCasts_S16x3x384x384_S16x3x48x8x48x8
  let main_c_36 : IVec S_ 1 := constantI S_ 1 0#1
  let main_v237 : IVec S16x3x48x48 1 := (fun x v => Host.reduce IntOp.ori x v reducesTo_S16x3x48x8x48x8_S16x3x48x48_d3_5 h_S_) main_v236 main_c_36
  let main_v238 : IVec S16x3x48x48 1 := noti main_v237
  let main_v239 : IVec S16x3x24x2x24x2 1 := shapeCast S16x3x24x2x24x2 main_v238 shapeCasts_S16x3x48x48_S16x3x24x2x24x2
  let main_v240 : IVec S16x24x24x3x2x2 1 := (transpose S16x24x24x3x2x2 [0, 2, 4, 1, 3, 5] · transposes_S16x3x24x2x24x2_S16x24x24x3x2x2_0_2_4_1_3_5) main_v239
  let main_v241 : IVec S16x576x3x1x4 1 := shapeCast S16x576x3x1x4 main_v240 shapeCasts_S16x24x24x3x2x2_S16x576x3x1x4
  let main_v242 : IVec S16x576x3x9x4 1 := broadcastInDim S16x576x3x9x4 ![0, 1, 2, 3, 4] bcast_S16x576x3x1x4_S16x576x3x9x4_0_1_2_3_4 main_v241
  let main_v243 : IVec S16x576x108 1 := shapeCast S16x576x108 main_v242 shapeCasts_S16x576x3x9x4_S16x576x108
  main_v243

def fn_part10 {F : FTy → Type} [FloatOps F] (main_v129 : FVec F S_ .f32) (main_v130 : FVec F S16x3x384x384 .f32) (main_v209 : IVec S16x3x384x384 1) : IVec S16x576x108 1 :=
  let main_cst_28 : FVec F S_ .f32 := constant S_ .f32 0x40E00000#32
  let main_v210 : FVec F S_ .f32 := mulf main_v129 main_cst_28
  let main_cst_29 : FVec F S_ .f32 := constant S_ .f32 0x41100000#32
  let main_v211 : FVec F S_ .f32 := Host.divf main_v210 main_cst_29
  let main_v212 : FVec F S_ .f32 := Host.cos main_v211
  let main_v213 : FVec F S_ .f32 := Host.sin main_v211
  let main_v214 : FVec F S_ .f32 := Host.divf main_v212 main_v213
  let main_cst_30 : FVec F S_ .f32 := constant S_ .f32 0xBF988B62#32
  let main_v215 : FVec F S_ .f32 := minimumf main_v214 main_cst_30
  let main_v216 : FVec F S16x3x384x384 .f32 := broadcastInDim S16x3x384x384 ![] bcast_S_S16x3x384x384 main_v215
  let main_v217 : IVec S16x3x384x384 1 := cmpf .olt main_v216 main_v130
  let main_cst_31 : FVec F S_ .f32 := constant S_ .f32 0xBF988B62#32
  let main_v218 : FVec F S_ .f32 := maximumf main_v214 main_cst_31
  let main_v219 : FVec F S16x3x384x384 .f32 := broadcastInDim S16x3x384x384 ![] bcast_S_S16x3x384x384 main_v218
  let main_v220 : IVec S16x3x384x384 1 := cmpf .ole main_v130 main_v219
  let main_v221 : IVec S16x3x384x384 1 := andi main_v217 main_v220
  let main_v222 : IVec S16x3x384x384 1 := ori main_v209 main_v221
  let main_cst_32 : FVec F S_ .f32 := constant S_ .f32 0x41000000#32
  let main_v223 : FVec F S_ .f32 := mulf main_v129 main_cst_32
  let main_cst_33 : FVec F S_ .f32 := constant S_ .f32 0x41100000#32
  let main_v224 : FVec F S_ .f32 := Host.divf main_v223 main_cst_33
  let main_v225 : FVec F S_ .f32 := Host.cos main_v224
  let main_v226 : FVec F S_ .f32 := Host.sin main_v224
  let main_v227 : FVec F S_ .f32 := Host.divf main_v225 main_v226
  fn_part11 (F := F) main_v130 main_v222 main_v227

def fn_part9 {F : FTy → Type} [FloatOps F] (main_v129 : FVec F S_ .f32) (main_v130 : FVec F S16x3x384x384 .f32) (main_v183 : IVec S16x3x384x384 1) (main_v188 : FVec F S_ .f32) (main_v190 : FVec F S16x3x384x384 .f32) : IVec S16x576x108 1 :=
  let main_v191 : IVec S16x3x384x384 1 := cmpf .olt main_v190 main_v130
  let main_cst_23 : FVec F S_ .f32 := constant S_ .f32 0xBE348F0F#32
  let main_v192 : FVec F S_ .f32 := maximumf main_v188 main_cst_23
  let main_v193 : FVec F S16x3x384x384 .f32 := broadcastInDim S16x3x384x384 ![] bcast_S_S16x3x384x384 main_v192
  let main_v194 : IVec S16x3x384x384 1 := cmpf .ole main_v130 main_v193
  let main_v195 : IVec S16x3x384x384 1 := andi main_v191 main_v194
  let main_v196 : IVec S16x3x384x384 1 := ori main_v183 main_v195
  let main_cst_24 : FVec F S_ .f32 := constant S_ .f32 0x40C00000#32
  let main_v197 : FVec F S_ .f32 := mulf main_v129 main_cst_24
  let main_cst_25 : FVec F S_ .f32 := constant S_ .f32 0x41100000#32
  let main_v198 : FVec F S_ .f32 := Host.divf main_v197 main_cst_25
  let main_v199 : FVec F S_ .f32 := Host.cos main_v198
  let main_v200 : FVec F S_ .f32 := Host.sin main_v198
  let main_v201 : FVec F S_ .f32 := Host.divf main_v199 main_v200
  let main_cst_26 : FVec F S_ .f32 := constant S_ .f32 0xBF13CD3A#32
  let main_v202 : FVec F S_ .f32 := minimumf main_v201 main_cst_26
  let main_v203 : FVec F S16x3x384x384 .f32 := broadcastInDim S16x3x384x384 ![] bcast_S_S16x3x384x384 main_v202
  let main_v204 : IVec S16x3x384x384 1 := cmpf .olt main_v203 main_v130
  let main_cst_27 : FVec F S_ .f32 := constant S_ .f32 0xBF13CD3A#32
  let main_v205 : FVec F S_ .f32 := maximumf main_v201 main_cst_27
  let main_v206 : FVec F S16x3x384x384 .f32 := broadcastInDim S16x3x384x384 ![] bcast_S_S16x3x384x384 main_v205
  let main_v207 : IVec S16x3x384x384 1 := cmpf .ole main_v130 main_v206
  let main_v208 : IVec S16x3x384x384 1 := andi main_v204 main_v207
  let main_v209 : IVec S16x3x384x384 1 := ori main_v196 main_v208
  fn_part10 (F := F) main_v129 main_v130 main_v209

def fn_part8 {F : FTy → Type} [FloatOps F] (main_v129 : FVec F S_ .f32) (main_v130 : FVec F S16x3x384x384 .f32) (main_v170 : IVec S16x3x384x384 1) (main_v171 : FVec F S_ .f32) (main_cst_17 : FVec F S_ .f32) : IVec S16x576x108 1 :=
  let main_v172 : FVec F S_ .f32 := Host.divf main_v171 main_cst_17
  let main_v173 : FVec F S_ .f32 := Host.cos main_v172
  let main_v174 : FVec F S_ .f32 := Host.sin main_v172
  let main_v175 : FVec F S_ .f32 := Host.divf main_v173 main_v174
  let main_cst_18 : FVec F S_ .f32 := constant S_ .f32 0x3E348F0F#32
  let main_v176 : FVec F S_ .f32 := minimumf main_v175 main_cst_18
  let main_v177 : FVec F S16x3x384x384 .f32 := broadcastInDim S16x3x384x384 ![] bcast_S_S16x3x384x384 main_v176
  let main_v178 : IVec S16x3x384x384 1 := cmpf .olt main_v177 main_v130
  let main_cst_19 : FVec F S_ .f32 := constant S_ .f32 0x3E348F0F#32
  let main_v179 : FVec F S_ .f32 := maximumf main_v175 main_cst_19
  let main_v180 : FVec F S16x3x384x384 .f32 := broadcastInDim S16x3x384x384 ![] bcast_S_S16x3x384x384 main_v179
  let main_v181 : IVec S16x3x384x384 1 := cmpf .ole main_v130 main_v180
  let main_v182 : IVec S16x3x384x384 1 := andi main_v178 main_v181
  let main_v183 : IVec S16x3x384x384 1 := ori main_v170 main_v182
  let main_cst_20 : FVec F S_ .f32 := constant S_ .f32 0x40A00000#32
  let main_v184 : FVec F S_ .f32 := mulf main_v129 main_cst_20
  let main_cst_21 : FVec F S_ .f32 := constant S_ .f32 0x41100000#32
  let main_v185 : FVec F S_ .f32 := Host.divf main_v184 main_cst_21
  let main_v186 : FVec F S_ .f32 := Host.cos main_v185
  let main_v187 : FVec F S_ .f32 := Host.sin main_v185
  let main_v188 : FVec F S_ .f32 := Host.divf main_v186 main_v187
  let main_cst_22 : FVec F S_ .f32 := constant S_ .f32 0xBE348F0F#32
  let main_v189 : FVec F S_ .f32 := minimumf main_v188 main_cst_22
  let main_v190 : FVec F S16x3x384x384 .f32 := broadcastInDim S16x3x384x384 ![] bcast_S_S16x3x384x384 main_v189
  fn_part9 (F := F) main_v129 main_v130 main_v183 main_v188 main_v190

def fn_part7 {F : FTy → Type} [FloatOps F] (main_v129 : FVec F S_ .f32) (main_v130 : FVec F S16x3x384x384 .f32) (main_v144 : IVec S16x3x384x384 1) (main_v152 : IVec S16x3x384x384 1) (main_v153 : FVec F S_ .f32) : IVec S16x576x108 1 :=
  let main_v154 : FVec F S16x3x384x384 .f32 := broadcastInDim S16x3x384x384 ![] bcast_S_S16x3x384x384 main_v153
  let main_v155 : IVec S16x3x384x384 1 := cmpf .ole main_v130 main_v154
  let main_v156 : IVec S16x3x384x384 1 := andi main_v152 main_v155
  let main_v157 : IVec S16x3x384x384 1 := ori main_v144 main_v156
  let main_cst_12 : FVec F S_ .f32 := constant S_ .f32 0x40400000#32
  let main_v158 : FVec F S_ .f32 := mulf main_v129 main_cst_12
  let main_cst_13 : FVec F S_ .f32 := constant S_ .f32 0x41100000#32
  let main_v159 : FVec F S_ .f32 := Host.divf main_v158 main_cst_13
  let main_v160 : FVec F S_ .f32 := Host.cos main_v159
  let main_v161 : FVec F S_ .f32 := Host.sin main_v159
  let main_v162 : FVec F S_ .f32 := Host.divf main_v160 main_v161
  let main_cst_14 : FVec F S_ .f32 := constant S_ .f32 0x3F13CD3A#32
  let main_v163 : FVec F S_ .f32 := minimumf main_v162 main_cst_14
  let main_v164 : FVec F S16x3x384x384 .f32 := broadcastInDim S16x3x384x384 ![] bcast_S_S16x3x384x384 main_v163
  let main_v165 : IVec S16x3x384x384 1 := cmpf .olt main_v164 main_v130
  let main_cst_15 : FVec F S_ .f32 := constant S_ .f32 0x3F13CD3A#32
  let main_v166 : FVec F S_ .f32 := maximumf main_v162 main_cst_15
  let main_v167 : FVec F S16x3x384x384 .f32 := broadcastInDim S16x3x384x384 ![] bcast_S_S16x3x384x384 main_v166
  let main_v168 : IVec S16x3x384x384 1 := cmpf .ole main_v130 main_v167
  let main_v169 : IVec S16x3x384x384 1 := andi main_v165 main_v168
  let main_v170 : IVec S16x3x384x384 1 := ori main_v157 main_v169
  let main_cst_16 : FVec F S_ .f32 := constant S_ .f32 0x40800000#32
  let main_v171 : FVec F S_ .f32 := mulf main_v129 main_cst_16
  let main_cst_17 : FVec F S_ .f32 := constant S_ .f32 0x41100000#32
  fn_part8 (F := F) main_v129 main_v130 main_v170 main_v171 main_cst_17

def fn_part6 {F : FTy → Type} [FloatOps F] (main_v129 : FVec F S_ .f32) (main_v130 : FVec F S16x3x384x384 .f32) (main_v131 : IVec S16x3x384x384 1) (main_v134 : FVec F S_ .f32) (main_v135 : FVec F S_ .f32) : IVec S16x576x108 1 :=
  let main_v136 : FVec F S_ .f32 := Host.divf main_v134 main_v135
  let main_cst_6 : FVec F S_ .f32 := constant S_ .f32 0x402FD6AC#32
  let main_v137 : FVec F S_ .f32 := minimumf main_v136 main_cst_6
  let main_v138 : FVec F S16x3x384x384 .f32 := broadcastInDim S16x3x384x384 ![] bcast_S_S16x3x384x384 main_v137
  let main_v139 : IVec S16x3x384x384 1 := cmpf .olt main_v138 main_v130
  let main_cst_7 : FVec F S_ .f32 := constant S_ .f32 0x402FD6AC#32
  let main_v140 : FVec F S_ .f32 := maximumf main_v136 main_cst_7
  let main_v141 : FVec F S16x3x384x384 .f32 := broadcastInDim S16x3x384x384 ![] bcast_S_S16x3x384x384 main_v140
  let main_v142 : IVec S16x3x384x384 1 := cmpf .ole main_v130 main_v141
  let main_v143 : IVec S16x3x384x384 1 := andi main_v139 main_v142
  let main_v144 : IVec S16x3x384x384 1 := ori main_v131 main_v143
  let main_cst_8 : FVec F S_ .f32 := constant S_ .f32 0x40000000#32
  let main_v145 : FVec F S_ .f32 := mulf main_v129 main_cst_8
  let main_cst_9 : FVec F S_ .f32 := constant S_ .f32 0x41100000#32
  let main_v146 : FVec F S_ .f32 := Host.divf main_v145 main_cst_9
  let main_v147 : FVec F S_ .f32 := Host.cos main_v146
  let main_v148 : FVec F S_ .f32 := Host.sin main_v146
  let main_v149 : FVec F S_ .f32 := Host.divf main_v147 main_v148
  let main_cst_10 : FVec F S_ .f32 := constant S_ .f32 0x3F988B62#32
  let main_v150 : FVec F S_ .f32 := minimumf main_v149 main_cst_10
  let main_v151 : FVec F S16x3x384x384 .f32 := broadcastInDim S16x3x384x384 ![] bcast_S_S16x3x384x384 main_v150
  let main_v152 : IVec S16x3x384x384 1 := cmpf .olt main_v151 main_v130
  let main_cst_11 : FVec F S_ .f32 := constant S_ .f32 0x3F988B62#32
  let main_v153 : FVec F S_ .f32 := maximumf main_v149 main_cst_11
  fn_part7 (F := F) main_v129 main_v130 main_v144 main_v152 main_v153

def fn_part5 {F : FTy → Type} [FloatOps F] (main_arg2 : FVec F S3x1x3x3 .f32) (main_v0 : FVec F S16x3x386x386 .f32) (main_v64 : FVec F S16x3x384x384 .f32) (main_v114 : FVec F S16x3x384x384 .f32) (main_v116 : FVec F S3 .f32) : IVec S16x576x108 1 :=
  let main_v117 : FVec F S1x3x1x1 .f32 := broadcastInDim S1x3x1x1 ![1] bcast_S3_S1x3x1x1_1 main_v116
  let main_v118 : FVec F S16x3x384x384 .f32 := (extractStridedSlice S16x3x384x384 ![0, 0, 2, 1] · slices_S16x3x386x386_S16x3x384x384_0_0_2_1) main_v0
  let main_v119 : FVec F S16x3x384x384 .f32 := broadcastInDim S16x3x384x384 ![0, 1, 2, 3] bcast_S1x3x1x1_S16x3x384x384_0_1_2_3 main_v117
  let main_v120 : FVec F S16x3x384x384 .f32 := mulf main_v119 main_v118
  let main_v121 : FVec F S16x3x384x384 .f32 := addf main_v114 main_v120
  let main_v122 : FVec F S3x1x1x1 .f32 := (extractStridedSlice S3x1x1x1 ![0, 0, 2, 2] · slices_S3x1x3x3_S3x1x1x1_0_0_2_2) main_arg2
  let main_v123 : FVec F S3 .f32 := shapeCast S3 main_v122 shapeCasts_S3x1x1x1_S3
  let main_v124 : FVec F S1x3x1x1 .f32 := broadcastInDim S1x3x1x1 ![1] bcast_S3_S1x3x1x1_1 main_v123
  let main_v125 : FVec F S16x3x384x384 .f32 := (extractStridedSlice S16x3x384x384 ![0, 0, 2, 2] · slices_S16x3x386x386_S16x3x384x384_0_0_2_2) main_v0
  let main_v126 : FVec F S16x3x384x384 .f32 := broadcastInDim S16x3x384x384 ![0, 1, 2, 3] bcast_S1x3x1x1_S16x3x384x384_0_1_2_3 main_v124
  let main_v127 : FVec F S16x3x384x384 .f32 := mulf main_v126 main_v125
  let main_v128 : FVec F S16x3x384x384 .f32 := addf main_v121 main_v127
  let main_cst_1 : FVec F S_ .f32 := constant S_ .f32 0x00000000#32
  let main_cst_2 : FVec F S_ .f32 := constant S_ .f32 0xBF800000#32
  let main_v129 : FVec F S_ .f32 := Host.atan2 main_cst_1 main_cst_2
  let main_v130 : FVec F S16x3x384x384 .f32 := Host.divf main_v128 main_v64
  let main_c_3 : IVec S_ 1 := constantI S_ 1 0#1
  let main_v131 : IVec S16x3x384x384 1 := broadcastInDim S16x3x384x384 ![] bcast_S_S16x3x384x384 main_c_3
  let main_cst_4 : FVec F S_ .f32 := constant S_ .f32 0x3F800000#32
  let main_v132 : FVec F S_ .f32 := mulf main_v129 main_cst_4
  let main_cst_5 : FVec F S_ .f32 := constant S_ .f32 0x41100000#32
  let main_v133 : FVec F S_ .f32 := Host.divf main_v132 main_cst_5
  let main_v134 : FVec F S_ .f32 := Host.cos main_v133
  let main_v135 : FVec F S_ .f32 := Host.sin main_v133
  fn_part6 (F := F) main_v129 main_v130 main_v131 main_v134 main_v135

def fn_part4 {F : FTy → Type} [FloatOps F] (main_arg2 : FVec F S3x1x3x3 .f32) (main_v0 : FVec F S16x3x386x386 .f32) (main_v64 : FVec F S16x3x384x384 .f32) (main_v86 : FVec F S16x3x384x384 .f32) (main_v92 : FVec F S16x3x384x384 .f32) : IVec S16x576x108 1 :=
  let main_v93 : FVec F S16x3x384x384 .f32 := addf main_v86 main_v92
  let main_v94 : FVec F S3x1x1x1 .f32 := (extractStridedSlice S3x1x1x1 ![0, 0, 1, 1] · slices_S3x1x3x3_S3x1x1x1_0_0_1_1) main_arg2
  let main_v95 : FVec F S3 .f32 := shapeCast S3 main_v94 shapeCasts_S3x1x1x1_S3
  let main_v96 : FVec F S1x3x1x1 .f32 := broadcastInDim S1x3x1x1 ![1] bcast_S3_S1x3x1x1_1 main_v95
  let main_v97 : FVec F S16x3x384x384 .f32 := (extractStridedSlice S16x3x384x384 ![0, 0, 1, 1] · slices_S16x3x386x386_S16x3x384x384_0_0_1_1) main_v0
  let main_v98 : FVec F S16x3x384x384 .f32 := broadcastInDim S16x3x384x384 ![0, 1, 2, 3] bcast_S1x3x1x1_S16x3x384x384_0_1_2_3 main_v96
  let main_v99 : FVec F S16x3x384x384 .f32 := mulf main_v98 main_v97
  let main_v100 : FVec F S16x3x384x384 .f32 := addf main_v93 main_v99
  let main_v101 : FVec F S3x1x1x1 .f32 := (extractStridedSlice S3x1x1x1 ![0, 0, 1, 2] · slices_S3x1x3x3_S3x1x1x1_0_0_1_2) main_arg2
  let main_v102 : FVec F S3 .f32 := shapeCast S3 main_v101 shapeCasts_S3x1x1x1_S3
  let main_v103 : FVec F S1x3x1x1 .f32 := broadcastInDim S1x3x1x1 ![1] bcast_S3_S1x3x1x1_1 main_v102
  let main_v104 : FVec F S16x3x384x384 .f32 := (extractStridedSlice S16x3x384x384 ![0, 0, 1, 2] · slices_S16x3x386x386_S16x3x384x384_0_0_1_2) main_v0
  let main_v105 : FVec F S16x3x384x384 .f32 := broadcastInDim S16x3x384x384 ![0, 1, 2, 3] bcast_S1x3x1x1_S16x3x384x384_0_1_2_3 main_v103
  let main_v106 : FVec F S16x3x384x384 .f32 := mulf main_v105 main_v104
  let main_v107 : FVec F S16x3x384x384 .f32 := addf main_v100 main_v106
  let main_v108 : FVec F S3x1x1x1 .f32 := (extractStridedSlice S3x1x1x1 ![0, 0, 2, 0] · slices_S3x1x3x3_S3x1x1x1_0_0_2_0) main_arg2
  let main_v109 : FVec F S3 .f32 := shapeCast S3 main_v108 shapeCasts_S3x1x1x1_S3
  let main_v110 : FVec F S1x3x1x1 .f32 := broadcastInDim S1x3x1x1 ![1] bcast_S3_S1x3x1x1_1 main_v109
  let main_v111 : FVec F S16x3x384x384 .f32 := (extractStridedSlice S16x3x384x384 ![0, 0, 2, 0] · slices_S16x3x386x386_S16x3x384x384_0_0_2_0) main_v0
  let main_v112 : FVec F S16x3x384x384 .f32 := broadcastInDim S16x3x384x384 ![0, 1, 2, 3] bcast_S1x3x1x1_S16x3x384x384_0_1_2_3 main_v110
  let main_v113 : FVec F S16x3x384x384 .f32 := mulf main_v112 main_v111
  let main_v114 : FVec F S16x3x384x384 .f32 := addf main_v107 main_v113
  let main_v115 : FVec F S3x1x1x1 .f32 := (extractStridedSlice S3x1x1x1 ![0, 0, 2, 1] · slices_S3x1x3x3_S3x1x1x1_0_0_2_1) main_arg2
  let main_v116 : FVec F S3 .f32 := shapeCast S3 main_v115 shapeCasts_S3x1x1x1_S3
  fn_part5 (F := F) main_arg2 main_v0 main_v64 main_v114 main_v116

def fn_part3 {F : FTy → Type} [FloatOps F] (main_arg2 : FVec F S3x1x3x3 .f32) (main_v0 : FVec F S16x3x386x386 .f32) (main_v64 : FVec F S16x3x384x384 .f32) (main_v68 : FVec F S16x3x384x384 .f32) (main_v69 : FVec F S16x3x384x384 .f32) : IVec S16x576x108 1 :=
  let main_v70 : FVec F S16x3x384x384 .f32 := mulf main_v69 main_v68
  let main_cst_0 : FVec F S_ .f32 := constant S_ .f32 0x00000000#32
  let main_v71 : FVec F S16x3x384x384 .f32 := broadcastInDim S16x3x384x384 ![] bcast_S_S16x3x384x384 main_cst_0
  let main_v72 : FVec F S16x3x384x384 .f32 := addf main_v71 main_v70
  let main_v73 : FVec F S3x1x1x1 .f32 := (extractStridedSlice S3x1x1x1 ![0, 0, 0, 1] · slices_S3x1x3x3_S3x1x1x1_0_0_0_1) main_arg2
  let main_v74 : FVec F S3 .f32 := shapeCast S3 main_v73 shapeCasts_S3x1x1x1_S3
  let main_v75 : FVec F S1x3x1x1 .f32 := broadcastInDim S1x3x1x1 ![1] bcast_S3_S1x3x1x1_1 main_v74
  let main_v76 : FVec F S16x3x384x384 .f32 := (extractStridedSlice S16x3x384x384 ![0, 0, 0, 1] · slices_S16x3x386x386_S16x3x384x384_0_0_0_1) main_v0
  let main_v77 : FVec F S16x3x384x384 .f32 := broadcastInDim S16x3x384x384 ![0, 1, 2, 3] bcast_S1x3x1x1_S16x3x384x384_0_1_2_3 main_v75
  let main_v78 : FVec F S16x3x384x384 .f32 := mulf main_v77 main_v76
  let main_v79 : FVec F S16x3x384x384 .f32 := addf main_v72 main_v78
  let main_v80 : FVec F S3x1x1x1 .f32 := (extractStridedSlice S3x1x1x1 ![0, 0, 0, 2] · slices_S3x1x3x3_S3x1x1x1_0_0_0_2) main_arg2
  let main_v81 : FVec F S3 .f32 := shapeCast S3 main_v80 shapeCasts_S3x1x1x1_S3
  let main_v82 : FVec F S1x3x1x1 .f32 := broadcastInDim S1x3x1x1 ![1] bcast_S3_S1x3x1x1_1 main_v81
  let main_v83 : FVec F S16x3x384x384 .f32 := (extractStridedSlice S16x3x384x384 ![0, 0, 0, 2] · slices_S16x3x386x386_S16x3x384x384_0_0_0_2) main_v0
  let main_v84 : FVec F S16x3x384x384 .f32 := broadcastInDim S16x3x384x384 ![0, 1, 2, 3] bcast_S1x3x1x1_S16x3x384x384_0_1_2_3 main_v82
  let main_v85 : FVec F S16x3x384x384 .f32 := mulf main_v84 main_v83
  let main_v86 : FVec F S16x3x384x384 .f32 := addf main_v79 main_v85
  let main_v87 : FVec F S3x1x1x1 .f32 := (extractStridedSlice S3x1x1x1 ![0, 0, 1, 0] · slices_S3x1x3x3_S3x1x1x1_0_0_1_0) main_arg2
  let main_v88 : FVec F S3 .f32 := shapeCast S3 main_v87 shapeCasts_S3x1x1x1_S3
  let main_v89 : FVec F S1x3x1x1 .f32 := broadcastInDim S1x3x1x1 ![1] bcast_S3_S1x3x1x1_1 main_v88
  let main_v90 : FVec F S16x3x384x384 .f32 := (extractStridedSlice S16x3x384x384 ![0, 0, 1, 0] · slices_S16x3x386x386_S16x3x384x384_0_0_1_0) main_v0
  let main_v91 : FVec F S16x3x384x384 .f32 := broadcastInDim S16x3x384x384 ![0, 1, 2, 3] bcast_S1x3x1x1_S16x3x384x384_0_1_2_3 main_v89
  let main_v92 : FVec F S16x3x384x384 .f32 := mulf main_v91 main_v90
  fn_part4 (F := F) main_arg2 main_v0 main_v64 main_v86 main_v92

def fn_part2 {F : FTy → Type} [FloatOps F] (main_arg1 : FVec F S3x1x3x3 .f32) (main_arg2 : FVec F S3x1x3x3 .f32) (main_v0 : FVec F S16x3x386x386 .f32) (main_v43 : FVec F S16x3x384x384 .f32) (main_v45 : FVec F S3 .f32) : IVec S16x576x108 1 :=
  let main_v46 : FVec F S1x3x1x1 .f32 := broadcastInDim S1x3x1x1 ![1] bcast_S3_S1x3x1x1_1 main_v45
  let main_v47 : FVec F S16x3x384x384 .f32 := (extractStridedSlice S16x3x384x384 ![0, 0, 2, 0] · slices_S16x3x386x386_S16x3x384x384_0_0_2_0) main_v0
  let main_v48 : FVec F S16x3x384x384 .f32 := broadcastInDim S16x3x384x384 ![0, 1, 2, 3] bcast_S1x3x1x1_S16x3x384x384_0_1_2_3 main_v46
  let main_v49 : FVec F S16x3x384x384 .f32 := mulf main_v48 main_v47
  let main_v50 : FVec F S16x3x384x384 .f32 := addf main_v43 main_v49
  let main_v51 : FVec F S3x1x1x1 .f32 := (extractStridedSlice S3x1x1x1 ![0, 0, 2, 1] · slices_S3x1x3x3_S3x1x1x1_0_0_2_1) main_arg1
  let main_v52 : FVec F S3 .f32 := shapeCast S3 main_v51 shapeCasts_S3x1x1x1_S3
  let main_v53 : FVec F S1x3x1x1 .f32 := broadcastInDim S1x3x1x1 ![1] bcast_S3_S1x3x1x1_1 main_v52
  let main_v54 : FVec F S16x3x384x384 .f32 := (extractStridedSlice S16x3x384x384 ![0, 0, 2, 1] · slices_S16x3x386x386_S16x3x384x384_0_0_2_1) main_v0
  let main_v55 : FVec F S16x3x384x384 .f32 := broadcastInDim S16x3x384x384 ![0, 1, 2, 3] bcast_S1x3x1x1_S16x3x384x384_0_1_2_3 main_v53
  let main_v56 : FVec F S16x3x384x384 .f32 := mulf main_v55 main_v54
  let main_v57 : FVec F S16x3x384x384 .f32 := addf main_v50 main_v56
  let main_v58 : FVec F S3x1x1x1 .f32 := (extractStridedSlice S3x1x1x1 ![0, 0, 2, 2] · slices_S3x1x3x3_S3x1x1x1_0_0_2_2) main_arg1
  let main_v59 : FVec F S3 .f32 := shapeCast S3 main_v58 shapeCasts_S3x1x1x1_S3
  let main_v60 : FVec F S1x3x1x1 .f32 := broadcastInDim S1x3x1x1 ![1] bcast_S3_S1x3x1x1_1 main_v59
  let main_v61 : FVec F S16x3x384x384 .f32 := (extractStridedSlice S16x3x384x384 ![0, 0, 2, 2] · slices_S16x3x386x386_S16x3x384x384_0_0_2_2) main_v0
  let main_v62 : FVec F S16x3x384x384 .f32 := broadcastInDim S16x3x384x384 ![0, 1, 2, 3] bcast_S1x3x1x1_S16x3x384x384_0_1_2_3 main_v60
  let main_v63 : FVec F S16x3x384x384 .f32 := mulf main_v62 main_v61
  let main_v64 : FVec F S16x3x384x384 .f32 := addf main_v57 main_v63
  let main_v65 : FVec F S3x1x1x1 .f32 := (extractStridedSlice S3x1x1x1 ![0, 0, 0, 0] · slices_S3x1x3x3_S3x1x1x1_0_0_0_0) main_arg2
  let main_v66 : FVec F S3 .f32 := shapeCast S3 main_v65 shapeCasts_S3x1x1x1_S3
  let main_v67 : FVec F S1x3x1x1 .f32 := broadcastInDim S1x3x1x1 ![1] bcast_S3_S1x3x1x1_1 main_v66
  let main_v68 : FVec F S16x3x384x384 .f32 := (extractStridedSlice S16x3x384x384 ![0, 0, 0, 0] · slices_S16x3x386x386_S16x3x384x384_0_0_0_0) main_v0
  let main_v69 : FVec F S16x3x384x384 .f32 := broadcastInDim S16x3x384x384 ![0, 1, 2, 3] bcast_S1x3x1x1_S16x3x384x384_0_1_2_3 main_v67
  fn_part3 (F := F) main_arg2 main_v0 main_v64 main_v68 main_v69

def fn_part1 {F : FTy → Type} [FloatOps F] (main_arg1 : FVec F S3x1x3x3 .f32) (main_arg2 : FVec F S3x1x3x3 .f32) (main_v0 : FVec F S16x3x386x386 .f32) (main_v15 : FVec F S16x3x384x384 .f32) (main_v21 : FVec F S16x3x384x384 .f32) : IVec S16x576x108 1 :=
  let main_v22 : FVec F S16x3x384x384 .f32 := addf main_v15 main_v21
  let main_v23 : FVec F S3x1x1x1 .f32 := (extractStridedSlice S3x1x1x1 ![0, 0, 1, 0] · slices_S3x1x3x3_S3x1x1x1_0_0_1_0) main_arg1
  let main_v24 : FVec F S3 .f32 := shapeCast S3 main_v23 shapeCasts_S3x1x1x1_S3
  let main_v25 : FVec F S1x3x1x1 .f32 := broadcastInDim S1x3x1x1 ![1] bcast_S3_S1x3x1x1_1 main_v24
  let main_v26 : FVec F S16x3x384x384 .f32 := (extractStridedSlice S16x3x384x384 ![0, 0, 1, 0] · slices_S16x3x386x386_S16x3x384x384_0_0_1_0) main_v0
  let main_v27 : FVec F S16x3x384x384 .f32 := broadcastInDim S16x3x384x384 ![0, 1, 2, 3] bcast_S1x3x1x1_S16x3x384x384_0_1_2_3 main_v25
  let main_v28 : FVec F S16x3x384x384 .f32 := mulf main_v27 main_v26
  let main_v29 : FVec F S16x3x384x384 .f32 := addf main_v22 main_v28
  let main_v30 : FVec F S3x1x1x1 .f32 := (extractStridedSlice S3x1x1x1 ![0, 0, 1, 1] · slices_S3x1x3x3_S3x1x1x1_0_0_1_1) main_arg1
  let main_v31 : FVec F S3 .f32 := shapeCast S3 main_v30 shapeCasts_S3x1x1x1_S3
  let main_v32 : FVec F S1x3x1x1 .f32 := broadcastInDim S1x3x1x1 ![1] bcast_S3_S1x3x1x1_1 main_v31
  let main_v33 : FVec F S16x3x384x384 .f32 := (extractStridedSlice S16x3x384x384 ![0, 0, 1, 1] · slices_S16x3x386x386_S16x3x384x384_0_0_1_1) main_v0
  let main_v34 : FVec F S16x3x384x384 .f32 := broadcastInDim S16x3x384x384 ![0, 1, 2, 3] bcast_S1x3x1x1_S16x3x384x384_0_1_2_3 main_v32
  let main_v35 : FVec F S16x3x384x384 .f32 := mulf main_v34 main_v33
  let main_v36 : FVec F S16x3x384x384 .f32 := addf main_v29 main_v35
  let main_v37 : FVec F S3x1x1x1 .f32 := (extractStridedSlice S3x1x1x1 ![0, 0, 1, 2] · slices_S3x1x3x3_S3x1x1x1_0_0_1_2) main_arg1
  let main_v38 : FVec F S3 .f32 := shapeCast S3 main_v37 shapeCasts_S3x1x1x1_S3
  let main_v39 : FVec F S1x3x1x1 .f32 := broadcastInDim S1x3x1x1 ![1] bcast_S3_S1x3x1x1_1 main_v38
  let main_v40 : FVec F S16x3x384x384 .f32 := (extractStridedSlice S16x3x384x384 ![0, 0, 1, 2] · slices_S16x3x386x386_S16x3x384x384_0_0_1_2) main_v0
  let main_v41 : FVec F S16x3x384x384 .f32 := broadcastInDim S16x3x384x384 ![0, 1, 2, 3] bcast_S1x3x1x1_S16x3x384x384_0_1_2_3 main_v39
  let main_v42 : FVec F S16x3x384x384 .f32 := mulf main_v41 main_v40
  let main_v43 : FVec F S16x3x384x384 .f32 := addf main_v36 main_v42
  let main_v44 : FVec F S3x1x1x1 .f32 := (extractStridedSlice S3x1x1x1 ![0, 0, 2, 0] · slices_S3x1x3x3_S3x1x1x1_0_0_2_0) main_arg1
  let main_v45 : FVec F S3 .f32 := shapeCast S3 main_v44 shapeCasts_S3x1x1x1_S3
  fn_part2 (F := F) main_arg1 main_arg2 main_v0 main_v43 main_v45

def fn {F : FTy → Type} [FloatOps F] (main_arg0 : FVec F S16x3x384x384 .f32) (main_arg1 : FVec F S3x1x3x3 .f32) (main_arg2 : FVec F S3x1x3x3 .f32) : IVec S16x576x108 1 :=
  let main_c : IVec S_ 32 := constantI S_ 32 0#32
  let main_v0 : FVec F S16x3x386x386 .f32 := fn_pad (F := F) main_arg0 main_c
  let main_v1 : FVec F S3x1x1x1 .f32 := (extractStridedSlice S3x1x1x1 ![0, 0, 0, 0] · slices_S3x1x3x3_S3x1x1x1_0_0_0_0) main_arg1
  let main_v2 : FVec F S3 .f32 := shapeCast S3 main_v1 shapeCasts_S3x1x1x1_S3
  let main_v3 : FVec F S1x3x1x1 .f32 := broadcastInDim S1x3x1x1 ![1] bcast_S3_S1x3x1x1_1 main_v2
  let main_v4 : FVec F S16x3x384x384 .f32 := (extractStridedSlice S16x3x384x384 ![0, 0, 0, 0] · slices_S16x3x386x386_S16x3x384x384_0_0_0_0) main_v0
  let main_v5 : FVec F S16x3x384x384 .f32 := broadcastInDim S16x3x384x384 ![0, 1, 2, 3] bcast_S1x3x1x1_S16x3x384x384_0_1_2_3 main_v3
  let main_v6 : FVec F S16x3x384x384 .f32 := mulf main_v5 main_v4
  let main_cst : FVec F S_ .f32 := constant S_ .f32 0x00000000#32
  let main_v7 : FVec F S16x3x384x384 .f32 := broadcastInDim S16x3x384x384 ![] bcast_S_S16x3x384x384 main_cst
  let main_v8 : FVec F S16x3x384x384 .f32 := addf main_v7 main_v6
  let main_v9 : FVec F S3x1x1x1 .f32 := (extractStridedSlice S3x1x1x1 ![0, 0, 0, 1] · slices_S3x1x3x3_S3x1x1x1_0_0_0_1) main_arg1
  let main_v10 : FVec F S3 .f32 := shapeCast S3 main_v9 shapeCasts_S3x1x1x1_S3
  let main_v11 : FVec F S1x3x1x1 .f32 := broadcastInDim S1x3x1x1 ![1] bcast_S3_S1x3x1x1_1 main_v10
  let main_v12 : FVec F S16x3x384x384 .f32 := (extractStridedSlice S16x3x384x384 ![0, 0, 0, 1] · slices_S16x3x386x386_S16x3x384x384_0_0_0_1) main_v0
  let main_v13 : FVec F S16x3x384x384 .f32 := broadcastInDim S16x3x384x384 ![0, 1, 2, 3] bcast_S1x3x1x1_S16x3x384x384_0_1_2_3 main_v11
  let main_v14 : FVec F S16x3x384x384 .f32 := mulf main_v13 main_v12
  let main_v15 : FVec F S16x3x384x384 .f32 := addf main_v8 main_v14
  let main_v16 : FVec F S3x1x1x1 .f32 := (extractStridedSlice S3x1x1x1 ![0, 0, 0, 2] · slices_S3x1x3x3_S3x1x1x1_0_0_0_2) main_arg1
  let main_v17 : FVec F S3 .f32 := shapeCast S3 main_v16 shapeCasts_S3x1x1x1_S3
  let main_v18 : FVec F S1x3x1x1 .f32 := broadcastInDim S1x3x1x1 ![1] bcast_S3_S1x3x1x1_1 main_v17
  let main_v19 : FVec F S16x3x384x384 .f32 := (extractStridedSlice S16x3x384x384 ![0, 0, 0, 2] · slices_S16x3x386x386_S16x3x384x384_0_0_0_2) main_v0
  let main_v20 : FVec F S16x3x384x384 .f32 := broadcastInDim S16x3x384x384 ![0, 1, 2, 3] bcast_S1x3x1x1_S16x3x384x384_0_1_2_3 main_v18
  let main_v21 : FVec F S16x3x384x384 .f32 := mulf main_v20 main_v19
  fn_part1 (F := F) main_arg1 main_arg2 main_v0 main_v15 main_v21
-- ==== Pre_sobel_weights.lean ====
abbrev S16x3x384x384 : Shape := ⟨4, ![16, 3, 384, 384]⟩
abbrev S3x1x3x3 : Shape := ⟨4, ![3, 1, 3, 3]⟩
abbrev S3x3 : Shape := ⟨2, ![3, 3]⟩
abbrev S1x1x3x3 : Shape := ⟨4, ![1, 1, 3, 3]⟩

class Facts : Prop where
  bcast_S3x3_S1x1x3x3_2_3 : S3x3.BroadcastsInDim S1x1x3x3 (![2, 3] : Fin 2 → Fin S1x1x3x3.rank)
  bcast_S1x1x3x3_S3x1x3x3_0_1_2_3 : S1x1x3x3.BroadcastsInDim S3x1x3x3 (![0, 1, 2, 3] : Fin 4 → Fin S3x1x3x3.rank)

variable [Facts]

noncomputable abbrev lit0 : Fin 9 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32
  | _ => 0#32

noncomputable abbrev lit1 : Fin 9 → BitVec 32 := fun
  | 0 => 0x3F800000#32 | 1 => 0x40000000#32 | 2 => 0x3F800000#32 | 3 => 0x00000000#32 | 4 => 0x00000000#32 | 5 => 0x00000000#32 | 6 => 0xBF800000#32 | 7 => 0xC0000000#32
  | 8 => 0xBF800000#32
  | _ => 0#32

def fn {F : FTy → Type} [FloatOps F] (main_arg0 : FVec F S16x3x384x384 .f32) (main_arg1 : FVec F S3x1x3x3 .f32) (main_arg2 : FVec F S3x1x3x3 .f32) : IVec S3x1x3x3 1 :=
  let main_cst : FVec F S3x3 .f32 := fun i => FloatOps.ofBits .f32 (lit0 (S3x3.rowMajor i))
  let main_cst_0 : FVec F S3x3 .f32 := fun i => FloatOps.ofBits .f32 (lit1 (S3x3.rowMajor i))
  let main_v0 : FVec F S1x1x3x3 .f32 := broadcastInDim S1x1x3x3 ![2, 3] bcast_S3x3_S1x1x3x3_2_3 main_cst
  let main_v1 : FVec F S1x1x3x3 .f32 := broadcastInDim S1x1x3x3 ![2, 3] bcast_S3x3_S1x1x3x3_2_3 main_cst_0
  let main_v2 : FVec F S3x1x3x3 .f32 := broadcastInDim S3x1x3x3 ![0, 1, 2, 3] bcast_S1x1x3x3_S3x1x3x3_0_1_2_3 main_v0
  let main_v3 : IVec S3x1x3x3 1 := cmpf .oeq main_arg1 main_v2
  let main_v4 : FVec F S3x1x3x3 .f32 := broadcastInDim S3x1x3x3 ![0, 1, 2, 3] bcast_S1x1x3x3_S3x1x3x3_0_1_2_3 main_v1
  let main_v5 : IVec S3x1x3x3 1 := cmpf .oeq main_arg2 main_v4
  let main_v6 : IVec S3x1x3x3 1 := andi main_v3 main_v5
  main_v6
-- ==== Kernel.lean ====
abbrev S16x3x384x384 : Shape := ⟨4, ![16, 3, 384, 384]⟩
abbrev S3x1x3x3 : Shape := ⟨4, ![3, 1, 3, 3]⟩
abbrev S16x576x108 : Shape := ⟨3, ![16, 576, 108]⟩
abbrev S1x3x384x384 : Shape := ⟨4, ![1, 3, 384, 384]⟩
abbrev S1x576x108 : Shape := ⟨3, ![1, 576, 108]⟩
abbrev S1x1x384x384 : Shape := ⟨4, ![1, 1, 384, 384]⟩
abbrev S384x384 : Shape := ⟨2, ![384, 384]⟩
abbrev S1x384 : Shape := ⟨2, ![1, 384]⟩
abbrev S383x384 : Shape := ⟨2, ![383, 384]⟩
abbrev S384x1 : Shape := ⟨2, ![384, 1]⟩
abbrev S384x383 : Shape := ⟨2, ![384, 383]⟩
abbrev S48x384 : Shape := ⟨2, ![48, 384]⟩
abbrev S384x48 : Shape := ⟨2, ![384, 48]⟩
abbrev S48x48 : Shape := ⟨2, ![48, 48]⟩
abbrev S1x48x48 : Shape := ⟨3, ![1, 48, 48]⟩
abbrev S27x48x48 : Shape := ⟨3, ![27, 48, 48]⟩
abbrev S54x108 : Shape := ⟨2, ![54, 108]⟩
abbrev S27x2x48 : Shape := ⟨3, ![27, 2, 48]⟩
abbrev S54x48 : Shape := ⟨2, ![54, 48]⟩
abbrev S48x54 : Shape := ⟨2, ![48, 54]⟩
abbrev S24x54 : Shape := ⟨2, ![24, 54]⟩
abbrev S24x108 : Shape := ⟨2, ![24, 108]⟩
abbrev S1x24x108 : Shape := ⟨3, ![1, 24, 108]⟩

abbrev nBuf : Space → Nat
  | .hbm => 4
  | .vmem => 4
  | .smem => 0
  | _ => 0

abbrev bufTy : (tb : Table) → Fin (tcTables nBuf tb) → BufTy
  | .hbm, ⟨0, _⟩ => ⟨S16x3x384x384, .f32⟩
  | .hbm, ⟨1, _⟩ => ⟨S3x1x3x3, .f32⟩
  | .hbm, ⟨2, _⟩ => ⟨S3x1x3x3, .f32⟩
  | .hbm, ⟨3, _⟩ => ⟨S16x576x108, .f32⟩
  | .local _ .vmem, ⟨0, _⟩ => ⟨S1x3x384x384, .f32⟩
  | .local _ .vmem, ⟨1, _⟩ => ⟨S1x3x384x384, .f32⟩
  | .local _ .vmem, ⟨2, _⟩ => ⟨S1x576x108, .f32⟩
  | .local _ .vmem, ⟨3, _⟩ => ⟨S1x576x108, .f32⟩
  | _, _ => ⟨S16x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x576x108 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x3x384x384 : Shape := ⟨4, ![16, 3, 384, 384]⟩
abbrev S3x1x3x3 : Shape := ⟨4, ![3, 1, 3, 3]⟩
abbrev S_ : Shape := ⟨0, ![]⟩
abbrev S16x3x1x384 : Shape := ⟨4, ![16, 3, 1, 384]⟩
abbrev S16x3x385x384 : Shape := ⟨4, ![16, 3, 385, 384]⟩
abbrev S16x3x386x384 : Shape := ⟨4, ![16, 3, 386, 384]⟩
abbrev S16x3x386x1 : Shape := ⟨4, ![16, 3, 386, 1]⟩
abbrev S16x3x386x385 : Shape := ⟨4, ![16, 3, 386, 385]⟩
abbrev S16x3x386x386 : Shape := ⟨4, ![16, 3, 386, 386]⟩
abbrev S3x1x1x1 : Shape := ⟨4, ![3, 1, 1, 1]⟩
abbrev S3 : Shape := ⟨1, ![3]⟩
abbrev S1x3x1x1 : Shape := ⟨4, ![1, 3, 1, 1]⟩
abbrev S16 : Shape := ⟨1, ![16]⟩
abbrev S16x1x1x1 : Shape := ⟨4, ![16, 1, 1, 1]⟩
abbrev S384 : Shape := ⟨1, ![384]⟩
abbrev S1x1x384x1 : Shape := ⟨4, ![1, 1, 384, 1]⟩
abbrev S1x1x1x384 : Shape := ⟨4, ![1, 1, 1, 384]⟩
abbrev S16x3x9x384x384 : Shape := ⟨5, ![16, 3, 9, 384, 384]⟩
abbrev S16x3x384x384x1 : Shape := ⟨5, ![16, 3, 384, 384, 1]⟩
abbrev S16x3x384x384x5 : Shape := ⟨5, ![16, 3, 384, 384, 5]⟩
abbrev S16x3x9x48x8x48x8 : Shape := ⟨7, ![16, 3, 9, 48, 8, 48, 8]⟩
abbrev S16x3x9x48x48 : Shape := ⟨5, ![16, 3, 9, 48, 48]⟩
abbrev S16x3x48x48 : Shape := ⟨4, ![16, 3, 48, 48]⟩
abbrev S16x3x1x48x48 : Shape := ⟨5, ![16, 3, 1, 48, 48]⟩
abbrev S16x27x48x48 : Shape := ⟨4, ![16, 27, 48, 48]⟩
abbrev S16x48x48x27 : Shape := ⟨4, ![16, 48, 48, 27]⟩
abbrev S16x24x2x48x27 : Shape := ⟨5, ![16, 24, 2, 48, 27]⟩
abbrev S16x24x48x27x2 : Shape := ⟨5, ![16, 24, 48, 27, 2]⟩
abbrev S16x24x24x2x27x2 : Shape := ⟨6, ![16, 24, 24, 2, 27, 2]⟩
abbrev S16x24x24x27x2x2 : Shape := ⟨6, ![16, 24, 24, 27, 2, 2]⟩
abbrev S16x576x27x2x2 : Shape := ⟨5, ![16, 576, 27, 2, 2]⟩
abbrev S16x576x108 : Shape := ⟨3, ![16, 576, 108]⟩

abbrev nBuf : Space → Nat
  | .hbm => 264
  | .vmem => 0
  | .smem => 0
  | _ => 0

abbrev hbmTy0_0 (i : Nat) : BufTy := match i % 128 with
  | 0 => ⟨S16x3x384x384, .f32⟩
  | 1 => ⟨S3x1x3x3, .f32⟩
  | 2 => ⟨S3x1x3x3, .f32⟩
  | 3 => ⟨S_, .i32⟩
  | 4 => ⟨S16x3x1x384, .f32⟩
  | 5 => ⟨S16x3x1x384, .f32⟩
  | 6 => ⟨S16x3x1x384, .f32⟩
  | 7 => ⟨S16x3x385x384, .f32⟩
  | 8 => ⟨S16x3x1x384, .f32⟩
  | 9 => ⟨S16x3x1x384, .f32⟩
  | 10 => ⟨S16x3x1x384, .f32⟩
  | 11 => ⟨S16x3x386x384, .f32⟩
  | 12 => ⟨S16x3x386x1, .f32⟩
  | 13 => ⟨S16x3x386x1, .f32⟩
  | 14 => ⟨S16x3x386x1, .f32⟩
  | 15 => ⟨S16x3x386x385, .f32⟩
  | 16 => ⟨S16x3x386x1, .f32⟩
  | 17 => ⟨S16x3x386x1, .f32⟩
  | 18 => ⟨S16x3x386x1, .f32⟩
  | 19 => ⟨S16x3x386x386, .f32⟩
  | 20 => ⟨S3x1x1x1, .f32⟩
  | 21 => ⟨S3, .f32⟩
  | 22 => ⟨S1x3x1x1, .f32⟩
  | 23 => ⟨S16x3x384x384, .f32⟩
  | 24 => ⟨S16x3x384x384, .f32⟩
  | 25 => ⟨S16x3x384x384, .f32⟩
  | 26 => ⟨S_, .f32⟩
  | 27 => ⟨S16x3x384x384, .f32⟩
  | 28 => ⟨S16x3x384x384, .f32⟩
  | 29 => ⟨S3x1x1x1, .f32⟩
  | 30 => ⟨S3, .f32⟩
  | 31 => ⟨S1x3x1x1, .f32⟩
  | 32 => ⟨S16x3x384x384, .f32⟩
  | 33 => ⟨S16x3x384x384, .f32⟩
  | 34 => ⟨S16x3x384x384, .f32⟩
  | 35 => ⟨S16x3x384x384, .f32⟩
  | 36 => ⟨S3x1x1x1, .f32⟩
  | 37 => ⟨S3, .f32⟩
  | 38 => ⟨S1x3x1x1, .f32⟩
  | 39 => ⟨S16x3x384x384, .f32⟩
  | 40 => ⟨S16x3x384x384, .f32⟩
  | 41 => ⟨S16x3x384x384, .f32⟩
  | 42 => ⟨S16x3x384x384, .f32⟩
  | 43 => ⟨S3x1x1x1, .f32⟩
  | 44 => ⟨S3, .f32⟩
  | 45 => ⟨S1x3x1x1, .f32⟩
  | 46 => ⟨S16x3x384x384, .f32⟩
  | 47 => ⟨S16x3x384x384, .f32⟩
  | 48 => ⟨S16x3x384x384, .f32⟩
  | 49 => ⟨S16x3x384x384, .f32⟩
  | 50 => ⟨S3x1x1x1, .f32⟩
  | 51 => ⟨S3, .f32⟩
  | 52 => ⟨S1x3x1x1, .f32⟩
  | 53 => ⟨S16x3x384x384, .f32⟩
  | 54 => ⟨S16x3x384x384, .f32⟩
  | 55 => ⟨S16x3x384x384, .f32⟩
  | 56 => ⟨S16x3x384x384, .f32⟩
  | 57 => ⟨S3x1x1x1, .f32⟩
  | 58 => ⟨S3, .f32⟩
  | 59 => ⟨S1x3x1x1, .f32⟩
  | 60 => ⟨S16x3x384x384, .f32⟩
  | 61 => ⟨S16x3x384x384, .f32⟩
  | 62 => ⟨S16x3x384x384, .f32⟩
  | 63 => ⟨S16x3x384x384, .f32⟩
  | 64 => ⟨S3x1x1x1, .f32⟩
  | 65 => ⟨S3, .f32⟩
  | 66 => ⟨S1x3x1x1, .f32⟩
  | 67 => ⟨S16x3x384x384, .f32⟩
  | 68 => ⟨S16x3x384x384, .f32⟩
  | 69 => ⟨S16x3x384x384, .f32⟩
  | 70 => ⟨S16x3x384x384, .f32⟩
  | 71 => ⟨S3x1x1x1, .f32⟩
  | 72 => ⟨S3, .f32⟩
  | 73 => ⟨S1x3x1x1, .f32⟩
  | 74 => ⟨S16x3x384x384, .f32⟩
  | 75 => ⟨S16x3x384x384, .f32⟩
  | 76 => ⟨S16x3x384x384, .f32⟩
  | 77 => ⟨S16x3x384x384, .f32⟩
  | 78 => ⟨S3x1x1x1, .f32⟩
  | 79 => ⟨S3, .f32⟩
  | 80 => ⟨S1x3x1x1, .f32⟩
  | 81 => ⟨S16x3x384x384, .f32⟩
  | 82 => ⟨S16x3x384x384, .f32⟩
  | 83 => ⟨S16x3x384x384, .f32⟩
  | 84 => ⟨S16x3x384x384, .f32⟩
  | 85 => ⟨S3x1x1x1, .f32⟩
  | 86 => ⟨S3, .f32⟩
  | 87 => ⟨S1x3x1x1, .f32⟩
  | 88 => ⟨S16x3x384x384, .f32⟩
  | 89 => ⟨S16x3x384x384, .f32⟩
  | 90 => ⟨S16x3x384x384, .f32⟩
  | 91 => ⟨S_, .f32⟩
  | 92 => ⟨S16x3x384x384, .f32⟩
  | 93 => ⟨S16x3x384x384, .f32⟩
  | 94 => ⟨S3x1x1x1, .f32⟩
  | 95 => ⟨S3, .f32⟩
  | 96 => ⟨S1x3x1x1, .f32⟩
  | 97 => ⟨S16x3x384x384, .f32⟩
  | 98 => ⟨S16x3x384x384, .f32⟩
  | 99 => ⟨S16x3x384x384, .f32⟩
  | 100 => ⟨S16x3x384x384, .f32⟩
  | 101 => ⟨S3x1x1x1, .f32⟩
  | 102 => ⟨S3, .f32⟩
  | 103 => ⟨S1x3x1x1, .f32⟩
  | 104 => ⟨S16x3x384x384, .f32⟩
  | 105 => ⟨S16x3x384x384, .f32⟩
  | 106 => ⟨S16x3x384x384, .f32⟩
  | 107 => ⟨S16x3x384x384, .f32⟩
  | 108 => ⟨S3x1x1x1, .f32⟩
  | 109 => ⟨S3, .f32⟩
  | 110 => ⟨S1x3x1x1, .f32⟩
  | 111 => ⟨S16x3x384x384, .f32⟩
  | 112 => ⟨S16x3x384x384, .f32⟩
  | 113 => ⟨S16x3x384x384, .f32⟩
  | 114 => ⟨S16x3x384x384, .f32⟩
  | 115 => ⟨S3x1x1x1, .f32⟩
  | 116 => ⟨S3, .f32⟩
  | 117 => ⟨S1x3x1x1, .f32⟩
  | 118 => ⟨S16x3x384x384, .f32⟩
  | 119 => ⟨S16x3x384x384, .f32⟩
  | 120 => ⟨S16x3x384x384, .f32⟩
  | 121 => ⟨S16x3x384x384, .f32⟩
  | 122 => ⟨S3x1x1x1, .f32⟩
  | 123 => ⟨S3, .f32⟩
  | 124 => ⟨S1x3x1x1, .f32⟩
  | 125 => ⟨S16x3x384x384, .f32⟩
  | 126 => ⟨S16x3x384x384, .f32⟩
  | 127 => ⟨S16x3x384x384, .f32⟩
  | _ => ⟨S16x3x384x384, .f32⟩

abbrev hbmTy0_1 (i : Nat) : BufTy := match i % 128 with
  | 0 => ⟨S16x3x384x384, .f32⟩
  | 1 => ⟨S3x1x1x1, .f32⟩
  | 2 => ⟨S3, .f32⟩
  | 3 => ⟨S1x3x1x1, .f32⟩
  | 4 => ⟨S16x3x384x384, .f32⟩
  | 5 => ⟨S16x3x384x384, .f32⟩
  | 6 => ⟨S16x3x384x384, .f32⟩
  | 7 => ⟨S16x3x384x384, .f32⟩
  | 8 => ⟨S3x1x1x1, .f32⟩
  | 9 => ⟨S3, .f32⟩
  | 10 => ⟨S1x3x1x1, .f32⟩
  | 11 => ⟨S16x3x384x384, .f32⟩
  | 12 => ⟨S16x3x384x384, .f32⟩
  | 13 => ⟨S16x3x384x384, .f32⟩
  | 14 => ⟨S16x3x384x384, .f32⟩
  | 15 => ⟨S3x1x1x1, .f32⟩
  | 16 => ⟨S3, .f32⟩
  | 17 => ⟨S1x3x1x1, .f32⟩
  | 18 => ⟨S16x3x384x384, .f32⟩
  | 19 => ⟨S16x3x384x384, .f32⟩
  | 20 => ⟨S16x3x384x384, .f32⟩
  | 21 => ⟨S16x3x384x384, .f32⟩
  | 22 => ⟨S16x3x384x384, .f32⟩
  | 23 => ⟨S16x3x384x384, .f32⟩
  | 24 => ⟨S16x3x384x384, .f32⟩
  | 25 => ⟨S16x3x384x384, .f32⟩
  | 26 => ⟨S_, .f32⟩
  | 27 => ⟨S_, .f32⟩
  | 28 => ⟨S_, .f32⟩
  | 29 => ⟨S16x3x384x384, .f32⟩
  | 30 => ⟨S16x3x384x384, .f32⟩
  | 31 => ⟨S16x3x384x384, .f32⟩
  | 32 => ⟨S_, .f32⟩
  | 33 => ⟨S16x3x384x384, .f32⟩
  | 34 => ⟨S16x3x384x384, .f32⟩
  | 35 => ⟨S16x3x384x384, .f32⟩
  | 36 => ⟨S16x3x384x384, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S16x3x384x384, .i32⟩
  | 44 => ⟨S16x3x384x384, .i32⟩
  | 45 => ⟨S_, .i32⟩
  | 46 => ⟨S16x3x384x384, .i32⟩
  | 47 => ⟨S16x3x384x384, .i1⟩
  | 48 => ⟨S_, .i32⟩
  | 49 => ⟨S16x3x384x384, .i32⟩
  | 50 => ⟨S16x3x384x384, .i1⟩
  | 51 => ⟨S_, .i32⟩
  | 52 => ⟨S_, .i1⟩
  | 53 => ⟨S16x3x384x384, .i1⟩
  | 54 => ⟨S16x3x384x384, .i1⟩
  | 55 => ⟨S16x3x384x384, .i1⟩
  | 56 => ⟨S16x3x384x384, .i32⟩
  | 57 => ⟨S16x3x384x384, .i32⟩
  | 58 => ⟨S16x3x384x384, .i32⟩
  | 59 => ⟨S16, .i32⟩
  | 60 => ⟨S16x1x1x1, .i32⟩
  | 61 => ⟨S3, .i32⟩
  | 62 => ⟨S1x3x1x1, .i32⟩
  | 63 => ⟨S384, .i32⟩
  | 64 => ⟨S1x1x384x1, .i32⟩
  | 65 => ⟨S384, .i32⟩
  | 66 => ⟨S1x1x1x384, .i32⟩
  | 67 => ⟨S_, .f32⟩
  | 68 => ⟨S16x3x9x384x384, .f32⟩
  | 69 => ⟨S_, .i32⟩
  | 70 => ⟨S16x1x1x1, .i32⟩
  | 71 => ⟨S16x1x1x1, .i1⟩
  | 72 => ⟨S_, .i32⟩
  | 73 => ⟨S16x1x1x1, .i32⟩
  | 74 => ⟨S16x1x1x1, .i32⟩
  | 75 => ⟨S16x1x1x1, .i32⟩
  | 76 => ⟨S_, .i32⟩
  | 77 => ⟨S1x3x1x1, .i32⟩
  | 78 => ⟨S1x3x1x1, .i1⟩
  | 79 => ⟨S_, .i32⟩
  | 80 => ⟨S1x3x1x1, .i32⟩
  | 81 => ⟨S1x3x1x1, .i32⟩
  | 82 => ⟨S1x3x1x1, .i32⟩
  | 83 => ⟨S_, .i32⟩
  | 84 => ⟨S16x3x384x384, .i32⟩
  | 85 => ⟨S16x3x384x384, .i1⟩
  | 86 => ⟨S_, .i32⟩
  | 87 => ⟨S16x3x384x384, .i32⟩
  | 88 => ⟨S16x3x384x384, .i32⟩
  | 89 => ⟨S16x3x384x384, .i32⟩
  | 90 => ⟨S_, .i32⟩
  | 91 => ⟨S1x1x384x1, .i32⟩
  | 92 => ⟨S1x1x384x1, .i1⟩
  | 93 => ⟨S_, .i32⟩
  | 94 => ⟨S1x1x384x1, .i32⟩
  | 95 => ⟨S1x1x384x1, .i32⟩
  | 96 => ⟨S1x1x384x1, .i32⟩
  | 97 => ⟨S_, .i32⟩
  | 98 => ⟨S1x1x1x384, .i32⟩
  | 99 => ⟨S1x1x1x384, .i1⟩
  | 100 => ⟨S_, .i32⟩
  | 101 => ⟨S1x1x1x384, .i32⟩
  | 102 => ⟨S1x1x1x384, .i32⟩
  | 103 => ⟨S1x1x1x384, .i32⟩
  | 104 => ⟨S16x3x384x384, .i32⟩
  | 105 => ⟨S16x3x384x384, .i32⟩
  | 106 => ⟨S16x3x384x384, .i32⟩
  | 107 => ⟨S16x3x384x384, .i32⟩
  | 108 => ⟨S16x3x384x384x1, .i32⟩
  | 109 => ⟨S16x3x384x384x1, .i32⟩
  | 110 => ⟨S16x3x384x384x1, .i32⟩
  | 111 => ⟨S16x3x384x384x1, .i32⟩
  | 112 => ⟨S16x3x384x384x1, .i32⟩
  | 113 => ⟨S16x3x384x384x5, .i32⟩
  | 114 => ⟨S16x3x9x384x384, .f32⟩
  | 115 => ⟨S16x3x9x48x8x48x8, .f32⟩
  | 116 => ⟨S_, .f32⟩
  | 117 => ⟨S16x3x9x48x48, .f32⟩
  | 118 => ⟨S16x3x9x48x48, .f32⟩
  | 119 => ⟨S_, .f32⟩
  | 120 => ⟨S16x3x48x48, .f32⟩
  | 121 => ⟨S16x3x1x48x48, .f32⟩
  | 122 => ⟨S16x3x1x48x48, .f32⟩
  | 123 => ⟨S_, .f32⟩
  | 124 => ⟨S16x3x1x48x48, .f32⟩
  | 125 => ⟨S16x3x1x48x48, .f32⟩
  | 126 => ⟨S16x3x9x48x48, .f32⟩
  | 127 => ⟨S16x3x9x48x48, .f32⟩
  | _ => ⟨S16x3x384x384, .f32⟩

abbrev hbmTy0_2 (i : Nat) : BufTy := match i % 128 with
  | 0 => ⟨S16x27x48x48, .f32⟩
  | 1 => ⟨S16x48x48x27, .f32⟩
  | 2 => ⟨S16x24x2x48x27, .f32⟩
  | 3 => ⟨S16x24x48x27x2, .f32⟩
  | 4 => ⟨S16x24x24x2x27x2, .f32⟩
  | 5 => ⟨S16x24x24x27x2x2, .f32⟩
  | 6 => ⟨S16x576x27x2x2, .f32⟩
  | 7 => ⟨S16x576x108, .f32⟩
  | _ => ⟨S16x3x384x384, .f32⟩

abbrev hbmTy (i : Nat) : BufTy := match i / 128 with
  | 0 => hbmTy0_0 i
  | 1 => hbmTy0_1 i
  | 2 => hbmTy0_2 i
  | _ => ⟨S16x3x384x384, .f32⟩

abbrev bufTy : (tb : Table) → Fin (tcTables nBuf tb) → BufTy
  | .hbm, ⟨i, _⟩ => hbmTy i
  | _, _ => ⟨S16x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_0 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_1 : Ref sig .tc := ⟨.hbm, 154, rfl⟩
abbrev main_cst_2 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_cst_3 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_c_4 : Ref sig .tc := ⟨.hbm, 165, rfl⟩
abbrev main_call1_v0 : Ref sig .tc := ⟨.hbm, 166, rfl⟩
abbrev main_call1_c : Ref sig .tc := ⟨.hbm, 167, rfl⟩
abbrev main_call1_v1 : Ref sig .tc := ⟨.hbm, 168, rfl⟩
abbrev main_call1_c_0 : Ref sig .tc := ⟨.hbm, 169, rfl⟩
abbrev main_call1_v2 : Ref sig .tc := ⟨.hbm, 170, rfl⟩
abbrev main_call1_v3 : Ref sig .tc := ⟨.hbm, 171, rfl⟩
abbrev main_call1_v4 : Ref sig .tc := ⟨.hbm, 172, rfl⟩
abbrev main_call1_c_1 : Ref sig .tc := ⟨.hbm, 173, rfl⟩
abbrev main_call1_v5 : Ref sig .tc := ⟨.hbm, 174, rfl⟩
abbrev main_call1_v6 : Ref sig .tc := ⟨.hbm, 175, rfl⟩
abbrev main_call1_c_2 : Ref sig .tc := ⟨.hbm, 176, rfl⟩
abbrev main_call1_v7 : Ref sig .tc := ⟨.hbm, 177, rfl⟩
abbrev main_call1_v8 : Ref sig .tc := ⟨.hbm, 178, rfl⟩
abbrev main_call1_c_3 : Ref sig .tc := ⟨.hbm, 179, rfl⟩
abbrev main_call1_v9 : Ref sig .tc := ⟨.hbm, 180, rfl⟩
abbrev main_call1_v10 : Ref sig .tc := ⟨.hbm, 181, rfl⟩
abbrev main_call1_v11 : Ref sig .tc := ⟨.hbm, 182, rfl⟩
abbrev main_call1_v12 : Ref sig .tc := ⟨.hbm, 183, rfl⟩
abbrev main_call1_v13 : Ref sig .tc := ⟨.hbm, 184, rfl⟩
abbrev main_call1_v14 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_5 : Ref sig .tc := ⟨.hbm, 195, rfl⟩
abbrev main_v150 : Ref sig .tc := ⟨.hbm, 196, rfl⟩
abbrev main_c_6 : Ref sig .tc := ⟨.hbm, 197, rfl⟩
abbrev main_v151 : Ref sig .tc := ⟨.hbm, 198, rfl⟩
abbrev main_v152 : Ref sig .tc := ⟨.hbm, 199, rfl⟩
abbrev main_c_7 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_c_8 : Ref sig .tc := ⟨.hbm, 204, rfl⟩
abbrev main_v156 : Ref sig .tc := ⟨.hbm, 205, rfl⟩
abbrev main_v157 : Ref sig .tc := ⟨.hbm, 206, rfl⟩
abbrev main_c_9 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_10 : Ref sig .tc := ⟨.hbm, 211, rfl⟩
abbrev main_v161 : Ref sig .tc := ⟨.hbm, 212, rfl⟩
abbrev main_v162 : Ref sig .tc := ⟨.hbm, 213, rfl⟩
abbrev main_c_11 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_c_12 : Ref sig .tc := ⟨.hbm, 218, rfl⟩
abbrev main_v166 : Ref sig .tc := ⟨.hbm, 219, rfl⟩
abbrev main_v167 : Ref sig .tc := ⟨.hbm, 220, rfl⟩
abbrev main_c_13 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_c_14 : Ref sig .tc := ⟨.hbm, 225, rfl⟩
abbrev main_v171 : Ref sig .tc := ⟨.hbm, 226, rfl⟩
abbrev main_v172 : Ref sig .tc := ⟨.hbm, 227, rfl⟩
abbrev main_c_15 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_16 : Ref sig .tc := ⟨.hbm, 244, rfl⟩
abbrev main_v188 : Ref sig .tc := ⟨.hbm, 245, rfl⟩
abbrev main_call2_v0 : Ref sig .tc := ⟨.hbm, 246, rfl⟩
abbrev main_call2_cst : Ref sig .tc := ⟨.hbm, 247, rfl⟩
abbrev main_call2_v1 : Ref sig .tc := ⟨.hbm, 248, rfl⟩
abbrev main_call2_v2 : Ref sig .tc := ⟨.hbm, 249, rfl⟩
abbrev main_v189 : Ref sig .tc := ⟨.hbm, 250, rfl⟩
abbrev main_cst_17 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩

abbrev nD : Nat := 1
abbrev τ : Topo := Topo.v7x

variable {F : FTy → Type} [FloatOps F]
-- ==== Proof.Pixels.lean ====
module

public import Idealize.ShloMosaic.Lib.Pointwise

@[expose] public section
noncomputable section

/-! The image gradient at one pixel, written the way the kernel computes it (a column or row of
weights 1, 2, 1, then a difference) and the way the reference does (nine weighted terms). The two
agree as extended reals whenever the gradient magnitude is finite, and the magnitudes always agree. -/

namespace Hog

open Idealize.ShloMosaic

/-- The index before `i` on a row of 384, reflected at the left end. -/
@[irreducible] def before (i : Fin 384) : Fin 384 := if i.val < 1 then ⟨1, by omega⟩ else ⟨i.val - 1, by omega⟩

/-- The index after `i` on a row of 384, reflected at the right end. -/
@[irreducible] def after (i : Fin 384) : Fin 384 := if h : i.val < 383 then ⟨i.val + 1, by omega⟩ else ⟨382, by omega⟩

theorem before_eq (i : Fin 384) : before i = if h : i.val < 1 then ⟨1 + i.val, by omega⟩ else ⟨i.val - 1, by omega⟩ := by
  unfold before
  split_ifs with h
  · exact Fin.ext (by show 1 = 1 + i.val; omega)
  · rfl

theorem after_eq (i : Fin 384) : after i = if h : i.val < 383 then ⟨1 + i.val, by omega⟩ else ⟨382 + (i.val - 383), by omega⟩ := by
  unfold after
  split_ifs with h
  · exact Fin.ext (Nat.add_comm _ _)
  · exact Fin.ext (by show 382 = 382 + (i.val - 383); omega)

/-- Weights 1, 2, 1. -/
def smooth (a b c : EReal) : EReal := a + 2 * b + c

/-- The horizontal gradient: the smoothed column on the left minus the one on the right. -/
def gradX (f : Fin 384 → Fin 384 → EReal) (i j : Fin 384) : EReal :=
  smooth (f (before i) (before j)) (f i (before j)) (f (after i) (before j))
    - smooth (f (before i) (after j)) (f i (after j)) (f (after i) (after j))

/-- The vertical gradient: the smoothed row above minus the one below. -/
def gradY (f : Fin 384 → Fin 384 → EReal) (i j : Fin 384) : EReal :=
  smooth (f (before i) (before j)) (f (before i) j) (f (before i) (after j))
    - smooth (f (after i) (before j)) (f (after i) j) (f (after i) (after j))

/-- The 3 by 3 correlation of the image with the weights `w` at `(i, j)`, added up row by row. -/
def correlate (w : Fin 3 → Fin 3 → EReal) (f : Fin 384 → Fin 384 → EReal) (i j : Fin 384) : EReal :=
  0 + w 0 0 * f (before i) (before j) + w 0 1 * f (before i) j + w 0 2 * f (before i) (after j)
    + w 1 0 * f i (before j) + w 1 1 * f i j + w 1 2 * f i (after j)
    + w 2 0 * f (after i) (before j) + w 2 1 * f (after i) j + w 2 2 * f (after i) (after j)

/-- The horizontal Sobel weights. -/
def sobelX : Fin 3 → Fin 3 → EReal := ![![1, 0, -1], ![2, 0, -2], ![1, 0, -1]]

/-- The vertical Sobel weights. -/
def sobelY : Fin 3 → Fin 3 → EReal := ![![1, 2, 1], ![0, 0, 0], ![-1, -2, -1]]

/-- The gradient magnitude. -/
def mag (a b : EReal) : EReal := Ideal.sqrt (a * a + b * b)

/-- Neither infinity. -/
def IsReal (a : EReal) : Prop := a ≠ ⊥ ∧ a ≠ ⊤

theorem isReal_coe (r : ℝ) : IsReal (r : EReal) := ⟨EReal.coe_ne_bot r, EReal.coe_ne_top r⟩

theorem IsReal.lift {a : EReal} (h : IsReal a) : ∃ r : ℝ, a = r := by
  induction a with
  | bot => exact absurd rfl h.1
  | top => exact absurd rfl h.2
  | coe r => exact ⟨r, rfl⟩

/-- A sum is finite exactly when both terms are. -/
theorem isReal_add (a b : EReal) : IsReal (a + b) ↔ IsReal a ∧ IsReal b := by
  induction a with
  | bot => simp [IsReal]
  | top => induction b <;> simp [IsReal]
  | coe r =>
    induction b with
    | bot => simp [IsReal]
    | top => simp [IsReal]
    | coe s => exact iff_of_true (by rw [← EReal.coe_add]; exact isReal_coe _) ⟨isReal_coe _, isReal_coe _⟩

theorem isReal_neg (a : EReal) : IsReal (-a) ↔ IsReal a := by
  induction a <;> simp [IsReal, ← EReal.coe_neg]

theorem isReal_sub (a b : EReal) : IsReal (a - b) ↔ IsReal a ∧ IsReal b := by
  rw [sub_eq_add_neg, isReal_add, isReal_neg]

theorem coe_two : (2 : EReal) = ((2 : ℝ) : EReal) := rfl

theorem isReal_two (a : EReal) : IsReal (2 * a) ↔ IsReal a := by
  rw [coe_two]
  induction a with
  | bot => rw [EReal.coe_mul_bot_of_pos (by norm_num)]
  | top => rw [EReal.coe_mul_top_of_pos (by norm_num)]
  | coe r => exact iff_of_true (by rw [← EReal.coe_mul]; exact isReal_coe _) (isReal_coe _)

theorem isReal_smooth (a b c : EReal) : IsReal (smooth a b c) ↔ IsReal a ∧ IsReal b ∧ IsReal c := by
  rw [smooth, isReal_add, isReal_add, isReal_two, and_assoc]

/-- The magnitude is infinite once a component is. -/
theorem mag_of_not_isReal (a b : EReal) (h : ¬(IsReal a ∧ IsReal b)) : mag a b = ⊤ := by
  have sq : ∀ c : EReal, 0 ≤ c * c := fun c => by
    induction c with
    | bot => simp
    | top => simp
    | coe r => rw [← EReal.coe_mul]; exact_mod_cast mul_self_nonneg r
  have top : ∀ c : EReal, ¬IsReal c → c * c = ⊤ := fun c hc => by
    induction c with
    | bot => simp
    | top => simp
    | coe r => exact absurd (isReal_coe r) hc
  unfold mag
  rcases not_and_or.mp h with h | h
  · rw [top a h, EReal.top_add_of_ne_bot (ne_of_gt (lt_of_lt_of_le (by simp) (sq b))), Ideal.sqrt_top]
  · rw [top b h, EReal.add_top_of_ne_bot (ne_of_gt (lt_of_lt_of_le (by simp) (sq a))), Ideal.sqrt_top]

/-- The magnitude is never negative. -/
theorem mag_nonneg (a b : EReal) : 0 ≤ mag a b := by
  by_cases h : IsReal a ∧ IsReal b
  · obtain ⟨r, rfl⟩ := h.1.lift
    obtain ⟨s, rfl⟩ := h.2.lift
    unfold mag
    rw [← EReal.coe_mul, ← EReal.coe_mul, ← EReal.coe_add, Ideal.sqrt_coe,
      if_neg (not_lt.mpr (by nlinarith [mul_self_nonneg r, mul_self_nonneg s]))]
    exact_mod_cast Real.sqrt_nonneg _
  · rw [mag_of_not_isReal a b h]; exact le_top

/-- A real gradient has a real magnitude. -/
theorem mag_coe (p q : ℝ) : mag p q = ((Real.sqrt (p * p + q * q) : ℝ) : EReal) := by
  unfold mag
  rw [← EReal.coe_mul, ← EReal.coe_mul, ← EReal.coe_add, Ideal.sqrt_coe,
    if_neg (not_lt.mpr (by nlinarith [mul_self_nonneg p, mul_self_nonneg q]))]

/-- The kernel's and the reference's horizontal gradient: equal reals, or both infinite. -/
theorem gradX_cases (f : Fin 384 → Fin 384 → EReal) (i j : Fin 384) :
    (∃ p : ℝ, gradX f i j = p ∧ correlate sobelX f i j = p) ∨ (¬IsReal (gradX f i j) ∧ ¬IsReal (correlate sobelX f i j)) := by
  unfold gradX correlate sobelX
  generalize f (before i) (before j) = a, f (before i) j = b, f (before i) (after j) = c, f i (before j) = d,
    f i j = e, f i (after j) = g, f (after i) (before j) = u, f (after i) j = v, f (after i) (after j) = w
  simp only [Matrix.cons_val_zero, Matrix.cons_val_one, Matrix.cons_val, one_mul, zero_mul, zero_add, add_zero, neg_mul,
    isReal_sub, isReal_smooth, isReal_add, isReal_neg, isReal_two]
  by_cases h : IsReal a ∧ IsReal c ∧ IsReal d ∧ IsReal g ∧ IsReal u ∧ IsReal w
  · obtain ⟨⟨a, rfl⟩, ⟨c, rfl⟩, ⟨d, rfl⟩, ⟨g, rfl⟩, ⟨u, rfl⟩, ⟨w, rfl⟩⟩ :=
      And.intro h.1.lift (And.intro h.2.1.lift (And.intro h.2.2.1.lift (And.intro h.2.2.2.1.lift (And.intro h.2.2.2.2.1.lift h.2.2.2.2.2.lift))))
    refine Or.inl ⟨(a + 2 * d + u) - (c + 2 * g + w), ?_, ?_⟩
    · rw [smooth, smooth, coe_two]; norm_cast
    · rw [coe_two]; norm_cast; ring_nf
  · exact Or.inr ⟨fun k => h (by tauto), fun k => h (by tauto)⟩

/-- The kernel's and the reference's vertical gradient: equal reals, or both infinite. -/
theorem gradY_cases (f : Fin 384 → Fin 384 → EReal) (i j : Fin 384) :
    (∃ p : ℝ, gradY f i j = p ∧ correlate sobelY f i j = p) ∨ (¬IsReal (gradY f i j) ∧ ¬IsReal (correlate sobelY f i j)) := by
  unfold gradY correlate sobelY
  generalize f (before i) (before j) = a, f (before i) j = b, f (before i) (after j) = c, f i (before j) = d,
    f i j = e, f i (after j) = g, f (after i) (before j) = u, f (after i) j = v, f (after i) (after j) = w
  simp only [Matrix.cons_val_zero, Matrix.cons_val_one, Matrix.cons_val, one_mul, zero_mul, zero_add, add_zero, neg_mul,
    isReal_sub, isReal_smooth, isReal_add, isReal_neg, isReal_two]
  by_cases h : IsReal a ∧ IsReal b ∧ IsReal c ∧ IsReal u ∧ IsReal v ∧ IsReal w
  · obtain ⟨⟨a, rfl⟩, ⟨b, rfl⟩, ⟨c, rfl⟩, ⟨u, rfl⟩, ⟨v, rfl⟩, ⟨w, rfl⟩⟩ :=
      And.intro h.1.lift (And.intro h.2.1.lift (And.intro h.2.2.1.lift (And.intro h.2.2.2.1.lift (And.intro h.2.2.2.2.1.lift h.2.2.2.2.2.lift))))
    refine Or.inl ⟨(a + 2 * b + c) - (u + 2 * v + w), ?_, ?_⟩
    · rw [smooth, smooth, coe_two]; norm_cast
    · rw [coe_two]; norm_cast; ring_nf
  · exact Or.inr ⟨fun k => h (by tauto), fun k => h (by tauto)⟩

/-- At every pixel the two programs either have the same real gradient, or both have an infinite
magnitude. -/
theorem grad_cases (f : Fin 384 → Fin 384 → EReal) (i j : Fin 384) :
    (∃ p q : ℝ, (gradX f i j = p ∧ correlate sobelX f i j = p) ∧ gradY f i j = q ∧ correlate sobelY f i j = q) ∨
      (mag (gradX f i j) (gradY f i j) = ⊤ ∧ mag (correlate sobelX f i j) (correlate sobelY f i j) = ⊤) := by
  rcases gradX_cases f i j with ⟨p, hp⟩ | hx
  · rcases gradY_cases f i j with ⟨q, hq⟩ | hy
    · exact Or.inl ⟨p, q, hp, hq⟩
    · exact Or.inr ⟨mag_of_not_isReal _ _ fun h => hy.1 h.2, mag_of_not_isReal _ _ fun h => hy.2 h.2⟩
  · exact Or.inr ⟨mag_of_not_isReal _ _ fun h => hx.1 h.1, mag_of_not_isReal _ _ fun h => hx.2 h.1⟩

end Hog
end
-- ==== Proof.RefGrad.lean ====
module

public import proofs.«01_k».proof.Proof.Gen.ReferenceIdeal.Read
public import proofs.«01_k».proof.Proof.Pixels
public import Idealize.ShloMosaic.Lib.Pointwise

@[expose] public section
set_option maxRecDepth 16384
noncomputable section

/-! The reference's gradients. It pads the image by reflecting one pixel at each border and adds nine shifted
products; read at one pixel, that is the correlation of the three by three weights with the neighbouring pixels. -/

namespace Cert.ReferenceIdeal.Hog

open Cert.ReferenceIdeal Cert.ReferenceIdeal.Gen Cert.ReferenceIdeal.Read Idealize.ShloMosaic Idealize.SL.Sem

/-- The input row or column that row or column `p` of the padded image repeats. -/
def reach (p : Fin 386) : Fin 384 :=
  if _ : p.val < 1 then 1 else if h : p.val < 385 then ⟨p.val - 1, by omega⟩ else 382

/-- The row step of the reflecting pad. -/
theorem pad_rows (x : FVec Ideal S16x3x384x384 .f32) (b : Fin 16) (c : Fin 3) (p : Fin 386) (q : Fin 384) :
    val_main_call0_v7 (F := Ideal) x (ix4 b c p q) = x (ix4 b c (reach p) q) := by
  pointwise [val_main_call0_v7, val_main_call0_v6, val_main_call0_v5, val_main_call0_v4, val_main_call0_v3, val_main_call0_v2, val_main_call0_v1, val_main_call0_v0]
  unfold reach
  by_cases a : p.val < 1
  · have a' : p.val < 385 := by omega
    simp only [a, a', dif_pos]
    rfl
  · by_cases a' : p.val < 385
    · simp only [a, a', dif_pos, dif_neg, not_false_eq_true]
    · simp only [a, a', dif_neg, not_false_eq_true]
      rfl

/-- The padded image repeats row `reach p` and column `reach q` of the image. -/
theorem pad_read (x : FVec Ideal S16x3x384x384 .f32) (b : Fin 16) (c : Fin 3) (p q : Fin 386) :
    val_main_v0 (F := Ideal) x (ix4 b c p q) = x (ix4 b c (reach p) (reach q)) := by
  rw [← pad_rows x b c p (reach q)]
  pointwise [val_main_v0, val_main_call0_v14, val_main_call0_v13, val_main_call0_v12, val_main_call0_v11, val_main_call0_v10, val_main_call0_v9, val_main_call0_v8]
  unfold reach
  by_cases a : q.val < 1
  · have a' : q.val < 385 := by omega
    simp only [a, a', dif_pos]
    rfl
  · by_cases a' : q.val < 385
    · simp only [a, a', dif_pos, dif_neg, not_false_eq_true]
    · simp only [a, a', dif_neg, not_false_eq_true]
      rfl

theorem reach_val (p : Fin 386) :
    (reach p).val = if p.val < 1 then 1 else if p.val < 385 then p.val - 1 else 382 := by
  unfold reach
  split_ifs <;> rfl

theorem before_val (i : Fin 384) : (Hog.before i).val = if i.val < 1 then 1 + i.val else i.val - 1 := by
  rw [Hog.before_eq]
  split_ifs <;> rfl

theorem after_val (i : Fin 384) : (Hog.after i).val = if i.val < 383 then 1 + i.val else 382 + (i.val - 383) := by
  rw [Hog.after_eq]
  split_ifs <;> rfl

theorem reach_before (i : Fin 384) (h : i.val < 386) : reach ⟨i.val, h⟩ = Hog.before i := by
  have := i.isLt
  rw [Fin.ext_iff, reach_val, before_val]
  dsimp only
  split_ifs <;> omega

theorem reach_self (i : Fin 384) (h : 1 + i.val < 386) : reach ⟨1 + i.val, h⟩ = i := by
  have := i.isLt
  rw [Fin.ext_iff, reach_val]
  dsimp only
  split_ifs <;> omega

theorem reach_after (i : Fin 384) (h : 2 + i.val < 386) : reach ⟨2 + i.val, h⟩ = Hog.after i := by
  have := i.isLt
  rw [Fin.ext_iff, reach_val, after_val]
  dsimp only
  split_ifs <;> omega

/-- The horizontal gradient at one pixel. -/
theorem gx_raw (x : FVec Ideal S16x3x384x384 .f32) (wx : FVec Ideal S3x1x3x3 .f32) (b : Fin 16) (c : Fin 3) (r q : Fin 384) :
    val_main_v64 (F := Ideal) x wx (ix4 b c r q)
      = Hog.correlate (fun i j => wx (ix4 c 0 i j)) (fun i j => x (ix4 b c i j)) r q := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst]
  simp only [pad_read, reach_before, reach_self, reach_after]
  unfold Hog.correlate
  rw [zero_add (M := EReal)]

/-- The vertical gradient at one pixel. -/
theorem gy_raw (x : FVec Ideal S16x3x384x384 .f32) (wy : FVec Ideal S3x1x3x3 .f32) (b : Fin 16) (c : Fin 3) (r q : Fin 384) :
    val_main_v128 (F := Ideal) x wy (ix4 b c r q)
      = Hog.correlate (fun i j => wy (ix4 c 0 i j)) (fun i j => x (ix4 b c i j)) r q := by
  pointwise [val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_cst_0]
  simp only [pad_read, reach_before, reach_self, reach_after]
  unfold Hog.correlate
  rw [zero_add (M := EReal)]

/-- The gradient's length at one pixel. -/
theorem norm_read (x : FVec Ideal S16x3x384x384 .f32) (wx wy : FVec Ideal S3x1x3x3 .f32) (b : Fin 16) (c : Fin 3) (r q : Fin 384) :
    val_main_v132 (F := Ideal) x wx wy (ix4 b c r q)
      = Hog.mag (val_main_v64 (F := Ideal) x wx (ix4 b c r q)) (val_main_v128 (F := Ideal) x wy (ix4 b c r q)) := by
  pointwise [val_main_v132, val_main_v131, val_main_v130, val_main_v129]
  rfl
end Cert.ReferenceIdeal.Hog
end
-- ==== Proof.Planes.lean ====
module

public import proofs.«01_k».proof.Proof.Gen.KernelIdeal.Frame
public import Idealize.ShloMosaic.Lib.Pointwise

@[expose] public section
set_option maxRecDepth 16384
noncomputable section

/-! The kernel's three channels run the same operations. Named here, as a function of one channel's image: the
magnitudes, the slopes, the magnitudes kept at each edge, the two pooling matrices, the histogram steps, the norm and
the nine normalised planes. The 27 planes the kernel stacks are these at the three channels. -/

namespace Cert.KernelIdeal.Hog

open Cert.KernelIdeal Cert.KernelIdeal.Gen Idealize.ShloMosaic Idealize.SL.Sem

/-- The matrix that adds up groups of eight rows. -/
def rowsOf : FVec Ideal S48x384 .f32 :=
  k0_pay18 (F := Ideal) (iota .tc S48x384 32 [0] iota_S48x384_d0_w32) (iota .tc S48x384 32 [1] iota_S48x384_d1_w32) 8#32 k0_pay15 k0_pay16 k0_pay17

/-- The matrix that adds up groups of eight columns, even cells first. -/
def colsOf : FVec Ideal S384x48 .f32 :=
  k0_pay20 (F := Ideal) (iota .tc S384x48 32 [1] iota_S384x48_d1_w32) k0_pay19 24#32 (Scalar.cmpi .eq 24#32 0#32)

variable (v : Vec Ideal S1x1x384x384 .f32)

/-- The magnitudes kept at edge 1. -/
def kept1 : FVec Ideal S384x384 .f32 := k0_pay7 (k0_pay5 v) (k0_pay6 v)

/-- The magnitudes kept at edge 2. -/
def kept2 : FVec Ideal S384x384 .f32 := k0_pay8 (k0_pay5 v) (k0_pay6 v)

/-- The magnitudes kept at edge 3. -/
def kept3 : FVec Ideal S384x384 .f32 := k0_pay9 (k0_pay5 v) (k0_pay6 v)

/-- The magnitudes kept at edge 4. -/
def kept4 : FVec Ideal S384x384 .f32 := k0_pay10 (k0_pay5 v) (k0_pay6 v)

/-- The magnitudes kept at edge 5. -/
def kept5 : FVec Ideal S384x384 .f32 := k0_pay11 (k0_pay5 v) (k0_pay6 v)

/-- The magnitudes kept at edge 6. -/
def kept6 : FVec Ideal S384x384 .f32 := k0_pay12 (k0_pay5 v) (k0_pay6 v)

/-- The magnitudes kept at edge 7. -/
def kept7 : FVec Ideal S384x384 .f32 := k0_pay13 (k0_pay5 v) (k0_pay6 v)

/-- The magnitudes kept at edge 8. -/
def kept8 : FVec Ideal S384x384 .f32 := k0_pay14 (k0_pay5 v) (k0_pay6 v)

/-- Step 0 of the histogram: all magnitudes pooled, minus those kept at edge 1. -/
def step0 : FVec Ideal S48x48 .f32 := k0_pay30 (kept1 v) rowsOf colsOf (k0_pay21 (k0_pay5 v) rowsOf) (constant S48x48 .f32 0x00000000#32)

/-- Step 1 of the histogram. -/
def step1 : FVec Ideal S48x48 .f32 := k0_pay31 (kept1 v) (kept2 v) rowsOf colsOf

/-- Step 2 of the histogram. -/
def step2 : FVec Ideal S48x48 .f32 := k0_pay32 (kept2 v) (kept3 v) rowsOf colsOf

/-- Step 3 of the histogram. -/
def step3 : FVec Ideal S48x48 .f32 := k0_pay33 (kept3 v) (kept4 v) rowsOf colsOf

/-- Step 4 of the histogram. -/
def step4 : FVec Ideal S48x48 .f32 := k0_pay34 (kept4 v) (kept5 v) rowsOf colsOf

/-- Step 5 of the histogram. -/
def step5 : FVec Ideal S48x48 .f32 := k0_pay35 (kept5 v) (kept6 v) rowsOf colsOf

/-- Step 6 of the histogram. -/
def step6 : FVec Ideal S48x48 .f32 := k0_pay36 (kept6 v) (kept7 v) rowsOf colsOf

/-- Step 7 of the histogram. -/
def step7 : FVec Ideal S48x48 .f32 := k0_pay37 (kept7 v) (kept8 v) rowsOf colsOf

/-- Step 8 of the histogram: the magnitudes kept at edge 8, pooled. -/
def step8 : FVec Ideal S48x48 .f32 := k0_pay29 (kept8 v) rowsOf colsOf

/-- The root of the sum of the squared steps. -/
def root : FVec Ideal S48x48 .f32 :=
  k0_pay38 (kept1 v) (kept2 v) (kept3 v) (kept4 v) (kept5 v) (kept6 v) (kept7 v) (kept8 v) rowsOf colsOf
    (k0_pay21 (k0_pay5 v) rowsOf) (constant S48x48 .f32 0x00000000#32)

/-- The nine normalised planes of one channel. -/
def plane (k : Fin 9) : FVec Ideal S48x48 .f32 :=
  match k with
  | 0 => k0_pay40 (step0 v) (root v) (Scalar.ofBits .f32 0x2B8CBCCC#32)
  | 1 => k0_pay41 (step1 v) (root v) (Scalar.ofBits .f32 0x2B8CBCCC#32)
  | 2 => k0_pay42 (step2 v) (root v) (Scalar.ofBits .f32 0x2B8CBCCC#32)
  | 3 => k0_pay43 (step3 v) (root v) (Scalar.ofBits .f32 0x2B8CBCCC#32)
  | 4 => k0_pay44 (step4 v) (root v) (Scalar.ofBits .f32 0x2B8CBCCC#32)
  | 5 => k0_pay45 (step5 v) (root v) (Scalar.ofBits .f32 0x2B8CBCCC#32)
  | 6 => k0_pay46 (step6 v) (root v) (Scalar.ofBits .f32 0x2B8CBCCC#32)
  | 7 => k0_pay47 (step7 v) (root v) (Scalar.ofBits .f32 0x2B8CBCCC#32)
  | 8 => k0_pay48 (step8 v) (root v) (Scalar.ofBits .f32 0x2B8CBCCC#32)

variable (x : Vec Ideal S1x3x384x384 .f32)

theorem plane0 : k0_pay278 x = shapeCast S1x48x48 (plane (View.ld x r0_0) 0) shapeCasts_S48x48_S1x48x48 := rfl
theorem plane1 : k0_pay279 x = shapeCast S1x48x48 (plane (View.ld x r0_0) 1) shapeCasts_S48x48_S1x48x48 := rfl
theorem plane2 : k0_pay280 x = shapeCast S1x48x48 (plane (View.ld x r0_0) 2) shapeCasts_S48x48_S1x48x48 := rfl
theorem plane3 : k0_pay281 x = shapeCast S1x48x48 (plane (View.ld x r0_0) 3) shapeCasts_S48x48_S1x48x48 := rfl
theorem plane4 : k0_pay282 x = shapeCast S1x48x48 (plane (View.ld x r0_0) 4) shapeCasts_S48x48_S1x48x48 := rfl
theorem plane5 : k0_pay283 x = shapeCast S1x48x48 (plane (View.ld x r0_0) 5) shapeCasts_S48x48_S1x48x48 := rfl
theorem plane6 : k0_pay284 x = shapeCast S1x48x48 (plane (View.ld x r0_0) 6) shapeCasts_S48x48_S1x48x48 := rfl
theorem plane7 : k0_pay285 x = shapeCast S1x48x48 (plane (View.ld x r0_0) 7) shapeCasts_S48x48_S1x48x48 := rfl
theorem plane8 : k0_pay286 x = shapeCast S1x48x48 (plane (View.ld x r0_0) 8) shapeCasts_S48x48_S1x48x48 := rfl
theorem plane9 : k0_pay287 x = shapeCast S1x48x48 (plane (View.ld x r0_1) 0) shapeCasts_S48x48_S1x48x48 := rfl
theorem plane10 : k0_pay288 x = shapeCast S1x48x48 (plane (View.ld x r0_1) 1) shapeCasts_S48x48_S1x48x48 := rfl
theorem plane11 : k0_pay289 x = shapeCast S1x48x48 (plane (View.ld x r0_1) 2) shapeCasts_S48x48_S1x48x48 := rfl
theorem plane12 : k0_pay290 x = shapeCast S1x48x48 (plane (View.ld x r0_1) 3) shapeCasts_S48x48_S1x48x48 := rfl
theorem plane13 : k0_pay291 x = shapeCast S1x48x48 (plane (View.ld x r0_1) 4) shapeCasts_S48x48_S1x48x48 := rfl
theorem plane14 : k0_pay292 x = shapeCast S1x48x48 (plane (View.ld x r0_1) 5) shapeCasts_S48x48_S1x48x48 := rfl
theorem plane15 : k0_pay293 x = shapeCast S1x48x48 (plane (View.ld x r0_1) 6) shapeCasts_S48x48_S1x48x48 := rfl
theorem plane16 : k0_pay294 x = shapeCast S1x48x48 (plane (View.ld x r0_1) 7) shapeCasts_S48x48_S1x48x48 := rfl
theorem plane17 : k0_pay295 x = shapeCast S1x48x48 (plane (View.ld x r0_1) 8) shapeCasts_S48x48_S1x48x48 := rfl
theorem plane18 : k0_pay296 x = shapeCast S1x48x48 (plane (View.ld x r0_2) 0) shapeCasts_S48x48_S1x48x48 := rfl
theorem plane19 : k0_pay297 x = shapeCast S1x48x48 (plane (View.ld x r0_2) 1) shapeCasts_S48x48_S1x48x48 := rfl
theorem plane20 : k0_pay271 x = plane (View.ld x r0_2) 2 := rfl
theorem plane21 : k0_pay272 x = plane (View.ld x r0_2) 3 := rfl
theorem plane22 : k0_pay273 x = plane (View.ld x r0_2) 4 := rfl
theorem plane23 : k0_pay274 x = plane (View.ld x r0_2) 5 := rfl
theorem plane24 : k0_pay275 x = plane (View.ld x r0_2) 6 := rfl
theorem plane25 : k0_pay276 x = plane (View.ld x r0_2) 7 := rfl
theorem plane26 : k0_pay277 x = plane (View.ld x r0_2) 8 := rfl

end Cert.KernelIdeal.Hog
end
-- ==== Proof.Consts.lean ====
module

public import Idealize.ShloMosaic.Lib.Pointwise

@[expose] public section
noncomputable section

/-! The real numbers behind the constants of the two programs. -/

namespace Hog

open Idealize.ShloMosaic

/-- The small integers that occur as weights or bin numbers, and minus one and minus two. -/
theorem ofBits_neg_one : Ideal.ofBits .f32 3212836864#32 = ((-1 : ℝ) : EReal) := by
  simp [Ideal.ofBits, Ideal.ieee, -EReal.coe_mul, -EReal.coe_neg]; norm_num

theorem ofBits_neg_two : Ideal.ofBits .f32 3221225472#32 = ((-2 : ℝ) : EReal) := by
  simp [Ideal.ofBits, Ideal.ieee, -EReal.coe_mul, -EReal.coe_neg]; norm_num

theorem ofBits_one : Ideal.ofBits .f32 1065353216#32 = ((1 : ℝ) : EReal) := by
  simp [Ideal.ofBits, Ideal.ieee, -EReal.coe_mul, -EReal.coe_neg]; norm_num

theorem ofBits_two : Ideal.ofBits .f32 1073741824#32 = ((2 : ℝ) : EReal) := by
  simp [Ideal.ofBits, Ideal.ieee, -EReal.coe_mul, -EReal.coe_neg]; norm_num

theorem ofBits_two' : Ideal.ofBits .f32 1073741824#32 = 2 := ofBits_two

theorem ofBits_three : Ideal.ofBits .f32 1077936128#32 = ((3 : ℝ) : EReal) := by
  simp [Ideal.ofBits, Ideal.ieee, -EReal.coe_mul, -EReal.coe_neg]; norm_num

theorem ofBits_four : Ideal.ofBits .f32 1082130432#32 = ((4 : ℝ) : EReal) := by
  simp [Ideal.ofBits, Ideal.ieee, -EReal.coe_mul, -EReal.coe_neg]; norm_num

theorem ofBits_five : Ideal.ofBits .f32 1084227584#32 = ((5 : ℝ) : EReal) := by
  simp [Ideal.ofBits, Ideal.ieee, -EReal.coe_mul, -EReal.coe_neg]; norm_num

theorem ofBits_six : Ideal.ofBits .f32 1086324736#32 = ((6 : ℝ) : EReal) := by
  simp [Ideal.ofBits, Ideal.ieee, -EReal.coe_mul, -EReal.coe_neg]; norm_num

theorem ofBits_seven : Ideal.ofBits .f32 1088421888#32 = ((7 : ℝ) : EReal) := by
  simp [Ideal.ofBits, Ideal.ieee, -EReal.coe_mul, -EReal.coe_neg]; norm_num

theorem ofBits_eight : Ideal.ofBits .f32 1090519040#32 = ((8 : ℝ) : EReal) := by
  simp [Ideal.ofBits, Ideal.ieee, -EReal.coe_mul, -EReal.coe_neg]; norm_num

theorem ofBits_nine : Ideal.ofBits .f32 1091567616#32 = ((9 : ℝ) : EReal) := by
  simp [Ideal.ofBits, Ideal.ieee, -EReal.coe_mul, -EReal.coe_neg]; norm_num

/-- The pattern of plus infinity. -/
theorem ofBits_inf : Ideal.ofBits .f32 2139095040#32 = ⊤ := by
  simp [Ideal.ofBits, Ideal.ieee]

/-- The floor under the denominator is a positive real. -/
theorem ofBits_floor : ∃ e : ℝ, 0 < e ∧ Ideal.ofBits .f32 730643660#32 = (e : EReal) := by
  refine ⟨_, ?_, by simp [Ideal.ofBits, Ideal.ieee, -EReal.coe_mul, -EReal.coe_neg]; rfl⟩
  positivity

/-- The kernel's rounded bin edges are finite. -/
theorem ofBits_edge1 : Ideal.ofBits .f32 1076876972#32 ≠ ⊤ := by
  simp [Ideal.ofBits, Ideal.ieee, -EReal.coe_mul, -EReal.coe_neg]

theorem ofBits_edge2 : Ideal.ofBits .f32 1066961762#32 ≠ ⊤ := by
  simp [Ideal.ofBits, Ideal.ieee, -EReal.coe_mul, -EReal.coe_neg]

theorem ofBits_edge3 : Ideal.ofBits .f32 1058262330#32 ≠ ⊤ := by
  simp [Ideal.ofBits, Ideal.ieee, -EReal.coe_mul, -EReal.coe_neg]

theorem ofBits_edge4 : Ideal.ofBits .f32 1043631887#32 ≠ ⊤ := by
  simp [Ideal.ofBits, Ideal.ieee, -EReal.coe_mul, -EReal.coe_neg]

theorem ofBits_edge5 : Ideal.ofBits .f32 3191115535#32 ≠ ⊤ := by
  simp [Ideal.ofBits, Ideal.ieee, -EReal.coe_mul, -EReal.coe_neg]

theorem ofBits_edge6 : Ideal.ofBits .f32 3205745978#32 ≠ ⊤ := by
  simp [Ideal.ofBits, Ideal.ieee, -EReal.coe_mul, -EReal.coe_neg]

theorem ofBits_edge7 : Ideal.ofBits .f32 3214445410#32 ≠ ⊤ := by
  simp [Ideal.ofBits, Ideal.ieee, -EReal.coe_mul, -EReal.coe_neg]

theorem ofBits_edge8 : Ideal.ofBits .f32 3224360620#32 ≠ ⊤ := by
  simp [Ideal.ofBits, Ideal.ieee, -EReal.coe_mul, -EReal.coe_neg]

end Hog
end
-- ==== Proof.Cell.lean ====
module

public import proofs.«01_k».proof.Proof.Consts

@[expose] public section
noncomputable section

/-! One cell's histogram. The reference adds the magnitudes bin by bin and divides by the norm; the
kernel sums the magnitudes at or above each edge, subtracts neighbours, and multiplies by the norm's
reciprocal. The two agree, also where a magnitude is infinite: then both results are zero. -/

namespace Hog

open Idealize.ShloMosaic

variable {ι : Type} [Fintype ι]

/-- The norm of a histogram, floored by a small constant. -/
def scale (h : Fin 9 → EReal) : EReal := max (Ideal.sqrt (∑ k, h k * h k)) (Ideal.ofBits .f32 730643660#32)

/-- The sum of the magnitudes of the pixels in a class. -/
def massOf (n : ι → EReal) (s : ι → Prop) [DecidablePred s] : EReal := ∑ p, if s p then n p else 0

/-- Neighbouring sums subtracted: the kernel's histogram from the sums at or above each edge. -/
def steps (m : Fin 9 → EReal) (k : Fin 9) : EReal := if h : k.val < 8 then m k - m ⟨k.val + 1, by omega⟩ else m k

theorem sq_nonneg (c : EReal) : 0 ≤ c * c := by
  induction c with
  | bot => simp
  | top => simp
  | coe r => rw [← EReal.coe_mul]; exact_mod_cast mul_self_nonneg r

theorem sum_top {κ : Type} [Fintype κ] (f : κ → EReal) (h : ∀ k, 0 ≤ f k) (k : κ) (hk : f k = ⊤) : ∑ k, f k = ⊤ := by
  classical
  rw [← Finset.add_sum_erase _ _ (Finset.mem_univ k), hk]
  refine EReal.top_add_of_ne_bot (ne_of_gt (lt_of_lt_of_le ?_ (Finset.sum_nonneg fun i _ => h i)))
  simp

theorem coe_sum {κ : Type} (s : Finset κ) (f : κ → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A histogram with an infinite entry has an infinite norm. -/
theorem scale_top (h : Fin 9 → EReal) (k : Fin 9) (hk : h k = ⊤ ∨ h k = ⊥) : scale h = ⊤ := by
  unfold scale
  rw [sum_top _ (fun k => sq_nonneg (h k)) k (by rcases hk with hk | hk <;> simp [hk]), Ideal.sqrt_top]
  exact max_eq_left le_top

/-- Dividing by an infinite norm gives zero. -/
theorem div_top (x : EReal) : Ideal.div x ⊤ = 0 := by
  show (if (⊤ : EReal) = 0 then _ else x * (⊤ : EReal)⁻¹) = 0
  rw [if_neg (by simp), EReal.inv_top, mul_zero]

theorem scale_pos (h : Fin 9 → EReal) : scale h ≠ 0 := by
  obtain ⟨e, he, hb⟩ := ofBits_floor
  refine ne_of_gt (lt_of_lt_of_le ?_ (le_max_right _ _))
  rw [hb]; exact_mod_cast he

/-- Multiplying by the reciprocal of the norm divides by it. -/
theorem mul_recip (h : Fin 9 → EReal) (x : EReal) : x * Ideal.div 1 (scale h) = Ideal.div x (scale h) := by
  show x * (if scale h = 0 then _ else 1 * (scale h)⁻¹) = (if scale h = 0 then _ else x * (scale h)⁻¹)
  rw [if_neg (scale_pos h), if_neg (scale_pos h), one_mul]

/-- One cell: the kernel's normalised histogram is the reference's. `n` are the magnitudes, `b` the bins, and
`above k p` says the kernel counts pixel `p` at edge `k`; that must be right wherever the magnitude is finite
and not zero. -/
theorem cell_eq (n n' : ι → EReal) (hn : ∀ p, 0 ≤ n p) (hn' : ∀ p, n' p = n p) (b : ι → ℕ) (hb : ∀ p, b p < 9)
    (above : Fin 9 → ι → Prop) [∀ k, DecidablePred (above k)] (h0 : ∀ p, above 0 p)
    (ha : (∀ p, n p ≠ ⊤) → ∀ k p, n p ≠ 0 → (above k p ↔ k.val ≤ b p)) (k : Fin 9) :
    steps (fun k => massOf n (above k)) k * Ideal.div 1 (scale (steps fun k => massOf n (above k))) =
      Ideal.div (massOf n' fun p => b p = k.val) (scale fun k => massOf n' fun p => b p = k.val) := by
  obtain rfl : n' = n := funext hn'
  by_cases hf : ∀ p, n' p ≠ ⊤
  · have ha := ha hf
    have hl : ∀ p, ∃ x : ℝ, n' p = x := fun p => by
      have h1 := hf p
      have h2 := hn p
      generalize n' p = a at *
      induction a with
      | bot => simp at h2
      | top => exact absurd rfl h1
      | coe r => exact ⟨r, rfl⟩
    choose x hx using hl
    have hm : ∀ (s : ι → Prop) [DecidablePred s], massOf n' s = ((∑ p, if s p then x p else 0 : ℝ) : EReal) := fun s _ => by
      unfold massOf
      rw [← coe_sum]
      refine Finset.sum_congr rfl fun p _ => ?_
      rw [hx]; split_ifs <;> rfl
    have hab : ∀ k : Fin 9, massOf n' (above k) = massOf n' fun p => k.val ≤ b p := fun k => by
      unfold massOf
      refine Finset.sum_congr rfl fun p _ => ?_
      by_cases hp : n' p = 0
      · rw [hp, ite_self, ite_self]
      · simp only [ha k p hp]
    have hh : (steps fun k => massOf n' (above k)) = fun k => massOf n' fun p => b p = k.val := funext fun k => by
      unfold steps
      simp only [hab, hm]
      split_ifs with h
      · rw [← EReal.coe_sub, ← Finset.sum_sub_distrib]
        congr 1
        refine Finset.sum_congr rfl fun p _ => ?_
        split_ifs <;> first | omega | simp
      · congr 1
        refine Finset.sum_congr rfl fun p _ => ?_
        have := hb p
        split_ifs <;> first | omega | simp
    rw [hh, mul_recip]
  · push Not at hf
    obtain ⟨p, hp⟩ := hf
    have hk : scale (steps fun k => massOf n' (above k)) = ⊤ := by
      refine scale_top _ 0 ?_
      have ht : massOf n' (above 0) = ⊤ := sum_top _ (fun p => by simp only [h0, if_true]; exact hn p) p (by simp only [h0, if_true, hp])
      unfold steps
      rw [dif_pos (by decide)]
      beta_reduce
      rw [ht]
      have hs : ∀ m : EReal, ⊤ - m = ⊤ ∨ ⊤ - m = ⊥ := fun m => by induction m <;> simp
      exact hs _
    have hr : scale (fun k : Fin 9 => massOf n' fun p => b p = k.val) = ⊤ := by
      refine scale_top _ ⟨b p, hb p⟩ (Or.inl ?_)
      refine sum_top _ (fun q => ?_) p (by simp [hp])
      split_ifs
      · exact hn q
      · exact le_rfl
    rw [hk, hr, div_top, div_top, mul_zero]

end Hog
end
-- ==== Proof.Pool.lean ====
module

public import proofs.«01_k».proof.Proof.Planes
public import proofs.«01_k».proof.Proof.Cell

@[expose] public section
set_option maxRecDepth 16384
noncomputable section

/-! The pooling matrices hold zeros and ones, so multiplying by them sums the 64 entries of one cell exactly. -/

namespace Cert.KernelIdeal.Hog

open Cert.KernelIdeal Cert.KernelIdeal.Gen Idealize.ShloMosaic Idealize.SL.Sem

/-- A comparison read as a float is one where it holds and zero elsewhere. -/
theorem ofCompare (a b : BitVec 32) :
    (FloatOps.sitofp .f32 (BitVec.setWidth 32 (IntOp.cmpi .eq a b)) : Ideal .f32) = if a = b then 1 else 0 := by
  show (((BitVec.setWidth 32 (BitVec.ofBool (a == b))).toInt : ℝ) : EReal) = _
  by_cases h : a = b
  · simp [h]
  · have hb : (a == b) = false := beq_false_of_ne h
    rw [hb, if_neg h]
    simp

/-- The signed quotient of a small number by 8, rounded down, as the kernel computes it on words. -/
def eighthWord (a : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt 8#32 0#32)) (Scalar.extui (Scalar.cmpi .slt 8#32 0#32))))
      (IntOp.cmpi .ne (IntOp.remsi .vector a 8#32) 0#32))
    (IntOp.subi (IntOp.divsi .vector a 8#32) 1#32) (IntOp.divsi .vector a 8#32)

/-- The cell column that output column `j` of the column matrix stands for. -/
def cellCol (j : Fin 48) : Fin 48 := ⟨2 * (j.val % 24) + j.val / 24, by omega⟩

/-- The word the kernel computes for `cellCol`. -/
def cellColWord (a : BitVec 32) : BitVec 32 :=
  IntOp.addi
    (IntOp.muli 2#32
      (Scalar.select
        (IntOp.andi
          (IntOp.xori (IntOp.cmpi .slt (IntOp.remsi .vector a (Scalar.select (Scalar.cmpi .eq 24#32 0#32) 1#32 24#32)) 0#32)
            (Scalar.cmpi .slt (Scalar.select (Scalar.cmpi .eq 24#32 0#32) 1#32 24#32) 0#32))
          (IntOp.cmpi .ne (IntOp.remsi .vector a (Scalar.select (Scalar.cmpi .eq 24#32 0#32) 1#32 24#32)) 0#32))
        (IntOp.addi (IntOp.remsi .vector a (Scalar.select (Scalar.cmpi .eq 24#32 0#32) 1#32 24#32))
          (Scalar.select (Scalar.cmpi .eq 24#32 0#32) 1#32 24#32))
        (IntOp.remsi .vector a (Scalar.select (Scalar.cmpi .eq 24#32 0#32) 1#32 24#32))))
    (Scalar.select
      (IntOp.andi
        (IntOp.cmpi .ne (IntOp.subi (BitVec.setWidth 32 (IntOp.cmpi .sgt a 0#32)) (BitVec.setWidth 32 (IntOp.cmpi .slt a 0#32)))
          (Scalar.subi (Scalar.extui (Scalar.cmpi .sgt 24#32 0#32)) (Scalar.extui (Scalar.cmpi .slt 24#32 0#32))))
        (IntOp.cmpi .ne (IntOp.remsi .vector a 24#32) 0#32))
      (IntOp.subi (IntOp.divsi .vector a 24#32) 1#32) (IntOp.divsi .vector a 24#32))

theorem eighthWord_eq : ∀ j : Fin 384, eighthWord (BitVec.ofNat 32 j.val) = BitVec.ofNat 32 (j.val / 8) := by
  decide +kernel

theorem cellColWord_eq : ∀ j : Fin 48, cellColWord (BitVec.ofNat 32 j.val) = BitVec.ofNat 32 (cellCol j).val := by
  decide +kernel

theorem ofNat_inj (a b : ℕ) (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- The row matrix: one exactly where the image row lies in the cell row. -/
theorem rowsOf_read (i : Fin 48) (j : Fin 384) : rowsOf (ix2 i j) = if j.val / 8 = i.val then 1 else 0 := by
  have h : rowsOf (ix2 i j) = FloatOps.sitofp .f32 (BitVec.setWidth 32 (IntOp.cmpi .eq (eighthWord (BitVec.ofNat 32 j.val)) (BitVec.ofNat 32 i.val))) := by
    pointwise [rowsOf, k0_pay18, k0_pay15, k0_pay16, k0_pay17]
    rfl
  rw [h, ofCompare, eighthWord_eq]
  simp only [ofNat_inj _ _ (by omega : j.val / 8 < 2 ^ 32) (by omega : i.val < 2 ^ 32)]

/-- The column matrix: one exactly where the image column lies in the cell column. -/
theorem colsOf_read (i : Fin 384) (j : Fin 48) : colsOf (ix2 i j) = if i.val / 8 = (cellCol j).val then 1 else 0 := by
  have h : colsOf (ix2 i j) = FloatOps.sitofp .f32 (BitVec.setWidth 32 (IntOp.cmpi .eq (eighthWord (BitVec.ofNat 32 i.val)) (cellColWord (BitVec.ofNat 32 j.val)))) := by
    pointwise [colsOf, k0_pay20, k0_pay19]
    rfl
  rw [h, ofCompare, eighthWord_eq, cellColWord_eq]
  simp only [ofNat_inj _ _ (by omega : i.val / 8 < 2 ^ 32) (by have := (cellCol j).isLt; omega : (cellCol j).val < 2 ^ 32)]

/-- The image index at offset `a` of cell `c` on one axis. -/
def pix (c : Fin 48) (a : Fin 8) : Fin 384 := ⟨c.val * 8 + a.val, by omega⟩

/-- A sum over an axis, kept only inside one cell, is the sum over that cell's eight indices. -/
theorem sum_cell (f : Fin 384 → EReal) (c : Fin 48) : (∑ x, if x.val / 8 = c.val then f x else 0) = ∑ a : Fin 8, f (pix c a) := by
  have e : ∀ g : Fin 384 → EReal, ∑ x, g x = ∑ c : Fin 48, ∑ a : Fin 8, g (pix c a) := fun g => by
    rw [← Fintype.sum_prod_type']
    refine (Fintype.sum_equiv (finProdFinEquiv (m := 48) (n := 8)) _ _ fun p => ?_).symm
    congr 1
    apply Fin.ext
    show p.1.val * 8 + p.2.val = p.2.val + 8 * p.1.val
    omega
  rw [e, Finset.sum_eq_single c]
  · refine Finset.sum_congr rfl fun a _ => if_pos ?_
    show (c.val * 8 + a.val) / 8 = c.val
    omega
  · intro d _ hd
    refine Finset.sum_eq_zero fun a _ => if_neg fun h => hd (Fin.ext ?_)
    have : (d.val * 8 + a.val) / 8 = c.val := h
    omega
  · exact fun h => absurd (Finset.mem_univ _) h

/-- An image multiplied by the row matrix on the left and the column matrix on the right. -/
def pooled (a : FVec Ideal S384x384 .f32) (i j : Fin 48) : EReal :=
  ∑ x, (∑ y, rowsOf (ix2 i y) * a (ix2 y x)) * colsOf (ix2 x j)

/-- The product is the sum over the cell. -/
theorem pooled_eq (a : FVec Ideal S384x384 .f32) (i j : Fin 48) :
    pooled a i j = ∑ p : Fin 8 × Fin 8, a (ix2 (pix i p.1) (pix (cellCol j) p.2)) := by
  unfold pooled
  have h1 : ∀ x, (∑ y, rowsOf (ix2 i y) * a (ix2 y x)) = ∑ d, a (ix2 (pix i d) x) := fun x => by
    rw [← sum_cell (fun y => a (ix2 y x))]
    refine Finset.sum_congr rfl fun y _ => ?_
    rw [rowsOf_read]
    split_ifs
    · rw [one_mul]
    · rw [zero_mul]
  rw [Fintype.sum_prod_type_right, ← sum_cell (fun x => ∑ d, a (ix2 (pix i d) x))]
  refine Finset.sum_congr rfl fun x _ => ?_
  rw [h1, colsOf_read]
  split_ifs
  · rw [mul_one]
  · rw [mul_zero]

end Cert.KernelIdeal.Hog
end
-- ==== Proof.Bins.lean ====
module

public import proofs.«01_k».proof.Proof.Consts
public import Idealize.ShloMosaic.Lib.Affine

@[expose] public section
noncomputable section

/-! The orientation bin of one gradient. The reference takes the angle, scales it to ninths of a half
turn, rounds down and wraps modulo 9; the kernel compares the slope against the bin edges. For a real,
non-zero gradient the bin is at least `k` exactly when the slope is at most the cotangent of `k` ninths of
a half turn. -/

namespace Hog

open Idealize.ShloMosaic

/-- The remainder modulo 9 with the sign of the divisor, as the reference computes it on words. -/
def wrapNine (x : BitVec 32) : BitVec 32 :=
  Scalar.select
    (IntOp.andi
      (IntOp.cmpi .ne (IntOp.cmpi .slt (IntOp.remsi .host x 9#32) 0#32) (IntOp.cmpi .slt 9#32 0#32))
      (IntOp.cmpi .ne (IntOp.remsi .host x 9#32) 0#32))
    (IntOp.addi (IntOp.remsi .host x 9#32) 9#32) (IntOp.remsi .host x 9#32)

/-- `wrapNine` is the integer remainder in `0 … 8`. -/
theorem wrapNine_eq (x : BitVec 32) : wrapNine x = BitVec.ofNat 32 (x.toInt % 9).toNat := by
  have hs : IntOp.remsi .host x 9#32 = x.srem 9#32 := IntOp.remsi_of_pos _ (by decide)
  have ht : (x.srem 9#32).toInt = x.toInt.tmod 9 := by rw [BitVec.toInt_srem]; rfl
  have hm : x.toInt.tmod 9 = _ := Int.tmod_eq_emod
  have hb := Int.emod_nonneg x.toInt (by decide : (9 : Int) ≠ 0)
  have hb' := Int.emod_lt_of_pos x.toInt (by decide : (0 : Int) < 9)
  unfold wrapNine
  rw [hs]
  generalize hg : x.srem 9#32 = s at *
  have hw : ∀ v : Int, 0 ≤ v → v < 9 → BitVec.ofNat 32 v.toNat = BitVec.ofInt 32 v := fun v h0 _ => by
    rw [← BitVec.ofInt_natCast, Int.toNat_of_nonneg h0]
  rw [hw _ hb hb']
  have hsI : s = BitVec.ofInt 32 (x.toInt.tmod 9) := by rw [← ht, BitVec.ofInt_toInt]
  have hr : x.toInt.tmod 9 = x.toInt % 9 ∨ x.toInt.tmod 9 = x.toInt % 9 - 9 := by
    rw [hm]; split_ifs <;> simp
  have hz : x.toInt.tmod 9 = x.toInt % 9 - 9 → x.toInt % 9 ≠ 0 := fun h h0 => by
    have := Int.dvd_of_emod_eq_zero h0
    rw [Int.tmod_eq_zero_of_dvd this, h0] at h
    omega
  generalize x.toInt.tmod 9 = t at *
  generalize x.toInt % 9 = m at *
  subst hsI
  interval_cases m <;> rcases hr with rfl | rfl <;> first | rfl | exact absurd rfl (hz rfl)

/-- The gradient's angle in ninths of a half turn, rounded down. -/
def ninths (gx gy : EReal) : EReal :=
  Ideal.liftRound Int.floor
    (Ideal.div (Ideal.atan2 gx gy) (Ideal.atan2 0 (Ideal.ofBits .f32 3212836864#32)) * Ideal.ofBits .f32 1091567616#32)

/-- The orientation bin, a number below 9. -/
def bin (gx gy : EReal) : ℕ := ((Ideal.fptosi 32 (ninths gx gy)).toInt % 9).toNat

theorem bin_lt (gx gy : EReal) : bin gx gy < 9 := by
  have := Int.emod_lt_of_pos (Ideal.fptosi 32 (ninths gx gy)).toInt (by decide : (0 : Int) < 9)
  unfold bin; omega

/-- The angle of a real gradient, by quadrants. -/
theorem atan2_coe (y x : ℝ) : Ideal.atan2 y x =
    ((if 0 < x then Real.arctan (y / x) else if x < 0 then (if 0 ≤ y then Real.arctan (y / x) + Real.pi else Real.arctan (y / x) - Real.pi)
      else if 0 < y then Real.pi / 2 else if y < 0 then -(Real.pi / 2) else 0 : ℝ) : EReal) := rfl

/-- Half a turn: the angle of the direction `(-1, 0)`. -/
theorem half_turn : Ideal.atan2 0 (Ideal.ofBits .f32 3212836864#32) = ((Real.pi : ℝ) : EReal) := by
  rw [ofBits_neg_one, ← EReal.coe_zero]
  rw [atan2_coe]; norm_num

/-- The angle of a gradient with a non-zero horizontal part: up to half a turn it is an angle `φ`
strictly between 0 and half a turn whose cotangent is the slope. -/
theorem atan2_of_ne (p q : ℝ) (hp : p ≠ 0) :
    ∃ θ φ : ℝ, Ideal.atan2 p q = (θ : EReal) ∧ 0 < φ ∧ φ < Real.pi ∧ p * Real.cos φ = q * Real.sin φ ∧
      (θ = φ ∨ θ = φ - Real.pi) := by
  have hpi := Real.pi_pos
  have key : ∀ t : ℝ, Real.sin (Real.arctan t) = t * Real.cos (Real.arctan t) := fun t => by
    have h := Real.tan_arctan t
    rw [Real.tan_eq_sin_div_cos, div_eq_iff (Real.cos_arctan_pos t).ne'] at h
    exact h
  have lo : ∀ t : ℝ, -(Real.pi / 2) < Real.arctan t := Real.neg_pi_div_two_lt_arctan
  have hi : ∀ t : ℝ, Real.arctan t < Real.pi / 2 := Real.arctan_lt_pi_div_two
  have eq : ∀ (hq : q ≠ 0), p * Real.cos (Real.arctan (p / q)) = q * Real.sin (Real.arctan (p / q)) := fun hq => by
    rw [key, ← mul_assoc, mul_div_cancel₀ _ hq]
  have eq' : ∀ (hq : q ≠ 0), p * Real.cos (Real.arctan (p / q) + Real.pi) = q * Real.sin (Real.arctan (p / q) + Real.pi) := fun hq => by
    rw [Real.cos_add_pi, Real.sin_add_pi, mul_neg, mul_neg, eq hq]
  have l := lo (p / q)
  have h := hi (p / q)
  rcases lt_or_gt_of_ne hp with hp' | hp' <;> rcases lt_trichotomy q 0 with hq | hq | hq
  · refine ⟨Real.arctan (p / q) - Real.pi, Real.arctan (p / q), ?_, Real.arctan_pos.mpr (div_pos_of_neg_of_neg hp' hq), by linarith,
      eq hq.ne, Or.inr rfl⟩
    rw [atan2_coe]; simp [hq, not_lt.mpr hq.le, not_le.mpr hp']
  · refine ⟨-(Real.pi / 2), Real.pi / 2, ?_, by linarith, by linarith, by simp [hq], Or.inr (by ring)⟩
    rw [atan2_coe]; simp [hq, hp', not_lt.mpr hp'.le]
  · have := Real.arctan_lt_zero.mpr (div_neg_of_neg_of_pos hp' hq)
    refine ⟨Real.arctan (p / q), Real.arctan (p / q) + Real.pi, ?_, by linarith, by linarith, eq' hq.ne', Or.inr (by ring)⟩
    rw [atan2_coe]; simp [hq]
  · have := Real.arctan_lt_zero.mpr (div_neg_of_pos_of_neg hp' hq)
    refine ⟨Real.arctan (p / q) + Real.pi, Real.arctan (p / q) + Real.pi, ?_, by linarith, by linarith, eq' hq.ne, Or.inl rfl⟩
    rw [atan2_coe]; simp [hq, not_lt.mpr hq.le, hp'.le]
  · refine ⟨Real.pi / 2, Real.pi / 2, ?_, by linarith, by linarith, by simp [hq], Or.inl rfl⟩
    rw [atan2_coe]; simp [hq, hp']
  · refine ⟨Real.arctan (p / q), Real.arctan (p / q), ?_, Real.arctan_pos.mpr (div_pos hp' hq), by linarith, eq hq.ne', Or.inl rfl⟩
    rw [atan2_coe]; simp [hq]

/-- Comparing cotangents of two angles strictly between 0 and half a turn compares the angles. -/
theorem cot_le_cot (φ α : ℝ) (h0 : 0 < φ) (h1 : φ < Real.pi) (a0 : 0 < α) (a1 : α < Real.pi) :
    Real.cos φ / Real.sin φ ≤ Real.cos α / Real.sin α ↔ α ≤ φ := by
  rw [div_le_div_iff₀ (Real.sin_pos_of_pos_of_lt_pi h0 h1) (Real.sin_pos_of_pos_of_lt_pi a0 a1)]
  have hs := Real.sin_sub φ α
  constructor
  · intro h
    by_contra hc
    have := Real.sin_neg_of_neg_of_neg_pi_lt (x := φ - α) (by linarith) (by linarith)
    linarith
  · intro h
    have := Real.sin_nonneg_of_nonneg_of_le_pi (x := φ - α) (by linarith) (by linarith)
    linarith

/-- Rounding down, converting to a word and back gives the integer, when it is small. -/
theorem toInt_word (m : ℤ) (h : -9 ≤ m) (h' : m ≤ 9) : (Ideal.fptosi 32 (((m : ℝ) : ℝ) : EReal)).toInt = m := by
  unfold Ideal.fptosi
  rw [Ideal.toIntClamped_coe, Int.floor_intCast, Int.ceil_intCast, ite_self]
  have : max (-((2 ^ (32 - 1) : Nat) : Int)) (min (((2 ^ (32 - 1) : Nat) : Int) - 1) m) = m := by
    norm_num; omega
  rw [this, BitVec.toInt_ofInt]
  interval_cases m <;> rfl

/-- `ninths` at a real angle. -/
theorem ninths_of_angle (gx gy : EReal) (θ : ℝ) (h : Ideal.atan2 gx gy = θ) :
    ninths gx gy = ((⌊θ / Real.pi * 9⌋ : ℝ) : EReal) := by
  unfold ninths
  rw [h, half_turn, ofBits_nine, Ideal.div_coe Real.pi_ne_zero, ← EReal.coe_mul, ← EReal.coe_mul, Ideal.liftRound_coe]
  norm_num [div_eq_mul_inv]

/-- The edge between bins `k - 1` and `k`: the cotangent of `k` ninths of half a turn. -/
def edge (k : ℕ) : ℝ := Real.cos (Real.pi * k / 9) / Real.sin (Real.pi * k / 9)

/-- The slope the kernel compares: vertical over horizontal, with a straight-up gradient sent to `⊤`. -/
def slope (gx gy : EReal) : EReal :=
  Scalar.select (IntOp.andi (BitVec.ofBool (decide (gx = 0))) (BitVec.ofBool (decide (gy < 0)))) (Ideal.ofBits .f32 2139095040#32)
    (Ideal.div gy gx)

/-- For a real, non-zero gradient the slope is at most the `k`-th edge exactly when the bin is at least `k`. -/
theorem slope_le_edge (p q : ℝ) (h : p ≠ 0 ∨ q ≠ 0) (k : ℕ) (h1 : 1 ≤ k) (h8 : k ≤ 8) :
    slope p q ≤ (edge k : EReal) ↔ k ≤ bin p q := by
  have hpi := Real.pi_pos
  by_cases hp : p = 0
  · subst hp
    have hq : q ≠ 0 := h.resolve_left (fun h => h rfl)
    have hl : slope ((0 : ℝ) : EReal) q = ⊤ := by
      unfold slope
      rcases lt_or_gt_of_ne hq with hq | hq
      · have : (q : EReal) < 0 := by exact_mod_cast hq
        simp [this, ofBits_inf, IntOp.andi, Scalar.select]
      · have : ¬(q : EReal) < 0 := by exact_mod_cast not_lt.mpr hq.le
        have h0 : (0 : EReal) < q := by exact_mod_cast hq
        simp [this, IntOp.andi, Scalar.select, Ideal.div, hq]
    have hb : bin ((0 : ℝ) : EReal) q = 0 := by
      unfold bin
      rcases lt_or_gt_of_ne hq with hq | hq
      · rw [ninths_of_angle _ _ Real.pi (by rw [atan2_coe]; simp [hq, not_lt.mpr hq.le]), div_self hpi.ne', one_mul]
        rw [show (⌊(9 : ℝ)⌋ : ℤ) = 9 from Int.floor_ofNat 9, toInt_word 9 (by decide) (by decide)]; rfl
      · rw [ninths_of_angle _ _ 0 (by rw [atan2_coe]; simp [hq]), zero_div, zero_mul, Int.floor_zero, toInt_word 0 (by decide) (by decide)]; rfl
    rw [hl, hb, top_le_iff]
    exact iff_of_false (EReal.coe_ne_top _) (by omega)
  · obtain ⟨θ, φ, hθ, h0, hπ, hc, ht⟩ := atan2_of_ne p q hp
    have hsin := Real.sin_pos_of_pos_of_lt_pi h0 hπ
    have hl : slope (p : EReal) q = ((Real.cos φ / Real.sin φ : ℝ) : EReal) := by
      unfold slope
      have hne : ¬(p : EReal) = 0 := by exact_mod_cast hp
      have hv : Real.cos φ / Real.sin φ = q * (1 / p) := by
        rw [div_eq_iff hsin.ne', mul_one_div, div_mul_eq_mul_div, eq_div_iff hp, ← hc, mul_comm]
      rw [Ideal.div_coe hp, ← EReal.coe_mul, hv]
      simp [hne, hp, IntOp.andi, Scalar.select]
    have hf0 : 0 ≤ φ / Real.pi * 9 := by positivity
    have hf9 : φ / Real.pi * 9 < 9 := by
      have : φ / Real.pi < 1 := (div_lt_one hpi).mpr hπ
      linarith
    have m0 : 0 ≤ ⌊φ / Real.pi * 9⌋ := Int.floor_nonneg.mpr hf0
    have m9 : ⌊φ / Real.pi * 9⌋ < 9 := Int.floor_lt.mpr (by exact_mod_cast hf9)
    have hb : (bin (p : EReal) q : ℤ) = ⌊φ / Real.pi * 9⌋ := by
      unfold bin
      rw [ninths_of_angle _ _ θ hθ]
      rcases ht with rfl | rfl
      · rw [toInt_word _ (by omega) (by omega)]; omega
      · have : (φ - Real.pi) / Real.pi * 9 = φ / Real.pi * 9 - (9 : ℤ) := by
          field_simp; push_cast; ring
        rw [this, Int.floor_sub_intCast, toInt_word _ (by omega) (by omega)]
        omega
    have hk : (0 : ℝ) < k := by exact_mod_cast h1
    have hk9 : (k : ℝ) < 9 := by exact_mod_cast (by omega : k < 9)
    rw [hl, EReal.coe_le_coe_iff, edge, cot_le_cot φ _ h0 hπ (by positivity) (by rw [div_lt_iff₀ (by norm_num)]; nlinarith)]
    rw [← Int.ofNat_le, hb, Int.le_floor, div_le_iff₀ (by norm_num : (0 : ℝ) < 9), div_mul_eq_mul_div, le_div_iff₀ hpi]
    constructor <;> intro h <;> push_cast at * <;> linarith

end Hog
end
-- ==== Proof.Plane.lean ====
module

public import proofs.«01_k».proof.Proof.Pool
public import proofs.«01_k».proof.Proof.Pixels
public import proofs.«01_k».proof.Proof.Bins

@[expose] public section
set_option maxRecDepth 16384
noncomputable section

/-! What one normalised plane of the kernel holds at a cell, in terms of the channel's image. -/

namespace Cert.KernelIdeal.Hog

open Cert.KernelIdeal Cert.KernelIdeal.Gen Idealize.ShloMosaic Idealize.SL.Sem

/-- The rounded bin edges written in the kernel, as bit patterns. -/
def edgeBits (k : Fin 9) : BitVec 32 :=
  match k with
  | 0 => 0#32
  | 1 => 1076876972#32
  | 2 => 1066961762#32
  | 3 => 1058262330#32
  | 4 => 1043631887#32
  | 5 => 3191115535#32
  | 6 => 3205745978#32
  | 7 => 3214445410#32
  | 8 => 3224360620#32

/-- Where the kernel counts a slope at edge `k`: always at edge 0, otherwise when it is at most the rounded edge. -/
def counts (k : Fin 9) (s : EReal) : Prop := k = 0 ∨ s ≤ Ideal.ofBits .f32 (edgeBits k)

open Classical in
instance (k : Fin 9) (s : EReal) : Decidable (counts k s) := Classical.dec _

theorem counts_ite (k : Fin 9) (hk : k ≠ 0) (s n : EReal) :
    (if s ≤ Ideal.ofBits .f32 (edgeBits k) then n else 0) = if counts k s then n else 0 :=
  if_congr ⟨Or.inr, fun h => h.resolve_left hk⟩ rfl rfl

variable (v : Vec Ideal S1x1x384x384 .f32)

/-- The image a loaded channel holds. -/
def image (i j : Fin 384) : EReal := v (ix4 0 0 i j)

/-- The loaded channel's horizontal gradient, from its neighbours' indices. -/
theorem gx_near (i j bi bj ai aj : Fin 384)
    (hbi : bi = if h : i.val < 1 then ⟨1 + i.val, by omega⟩ else ⟨i.val - 1, by omega⟩)
    (hbj : bj = if h : j.val < 1 then ⟨1 + j.val, by omega⟩ else ⟨j.val - 1, by omega⟩)
    (hai : ai = if h : i.val < 383 then ⟨1 + i.val, by omega⟩ else ⟨382 + (i.val - 383), by omega⟩)
    (haj : aj = if h : j.val < 383 then ⟨1 + j.val, by omega⟩ else ⟨382 + (j.val - 383), by omega⟩) :
    k0_pay3 v (ix2 i j) = Hog.smooth (image v bi bj) (image v i bj) (image v ai bj) - Hog.smooth (image v bi aj) (image v i aj) (image v ai aj) := by
  pointwise [k0_pay3, k0_pay2]
  rw [Hog.ofBits_two']
  by_cases h1 : i.val < 1 <;> by_cases h2 : i.val < 383 <;> by_cases h3 : j.val < 1 <;> by_cases h4 : j.val < 383 <;>
    simp only [h1, h2, h3, h4, ↓reduceDIte] at hbi hbj hai haj ⊢ <;> subst hbi hbj hai haj <;> rfl

/-- The loaded channel's horizontal gradient. -/
theorem gx_read (i j : Fin 384) : k0_pay3 v (ix2 i j) = Hog.gradX (image v) i j :=
  gx_near v i j _ _ _ _ (Hog.before_eq i) (Hog.before_eq j) (Hog.after_eq i) (Hog.after_eq j)

/-- The loaded channel's vertical gradient, from its neighbours' indices. -/
theorem gy_near (i j bi bj ai aj : Fin 384)
    (hbi : bi = if h : i.val < 1 then ⟨1 + i.val, by omega⟩ else ⟨i.val - 1, by omega⟩)
    (hbj : bj = if h : j.val < 1 then ⟨1 + j.val, by omega⟩ else ⟨j.val - 1, by omega⟩)
    (hai : ai = if h : i.val < 383 then ⟨1 + i.val, by omega⟩ else ⟨382 + (i.val - 383), by omega⟩)
    (haj : aj = if h : j.val < 383 then ⟨1 + j.val, by omega⟩ else ⟨382 + (j.val - 383), by omega⟩) :
    k0_pay4 v (ix2 i j) = Hog.smooth (image v bi bj) (image v bi j) (image v bi aj) - Hog.smooth (image v ai bj) (image v ai j) (image v ai aj) := by
  pointwise [k0_pay4, k0_pay2]
  rw [Hog.ofBits_two']
  by_cases h1 : i.val < 1 <;> by_cases h2 : i.val < 383 <;> by_cases h3 : j.val < 1 <;> by_cases h4 : j.val < 383 <;>
    simp only [h1, h2, h3, h4, ↓reduceDIte] at hbi hbj hai haj ⊢ <;> subst hbi hbj hai haj <;> rfl

/-- The loaded channel's vertical gradient. -/
theorem gy_read (i j : Fin 384) : k0_pay4 v (ix2 i j) = Hog.gradY (image v) i j :=
  gy_near v i j _ _ _ _ (Hog.before_eq i) (Hog.before_eq j) (Hog.after_eq i) (Hog.after_eq j)

/-- The loaded channel's gradient magnitude. -/
theorem mag_read (i j : Fin 384) : k0_pay5 v (ix2 i j) = Hog.mag (Hog.gradX (image v) i j) (Hog.gradY (image v) i j) := by
  rw [← gx_read, ← gy_read]
  pointwise [k0_pay5]
  rfl

/-- The loaded channel's slope. -/
theorem slope_read (i j : Fin 384) : k0_pay6 v (ix2 i j) = Hog.slope (Hog.gradX (image v) i j) (Hog.gradY (image v) i j) := by
  rw [← gx_read, ← gy_read]
  pointwise [k0_pay6]
  rfl

/-- The magnitudes kept at edge `k`. -/
def kept (k : Fin 9) : FVec Ideal S384x384 .f32 :=
  match k with
  | 0 => k0_pay5 v
  | 1 => kept1 v
  | 2 => kept2 v
  | 3 => kept3 v
  | 4 => kept4 v
  | 5 => kept5 v
  | 6 => kept6 v
  | 7 => kept7 v
  | 8 => kept8 v

/-- The histogram steps. -/
def step (k : Fin 9) : FVec Ideal S48x48 .f32 :=
  match k with
  | 0 => step0 v
  | 1 => step1 v
  | 2 => step2 v
  | 3 => step3 v
  | 4 => step4 v
  | 5 => step5 v
  | 6 => step6 v
  | 7 => step7 v
  | 8 => step8 v

theorem kept_read (k : Fin 9) (i j : Fin 384) : kept v k (ix2 i j) = if counts k (k0_pay6 v (ix2 i j)) then k0_pay5 v (ix2 i j) else 0 := by
  fin_cases k
  · exact (if_pos (Or.inl rfl)).symm
  · show kept1 v (ix2 i j) = _
    pointwise [kept1, k0_pay7]
    exact counts_ite 1 (by decide) _ _
  · show kept2 v (ix2 i j) = _
    pointwise [kept2, k0_pay8]
    exact counts_ite 2 (by decide) _ _
  · show kept3 v (ix2 i j) = _
    pointwise [kept3, k0_pay9]
    exact counts_ite 3 (by decide) _ _
  · show kept4 v (ix2 i j) = _
    pointwise [kept4, k0_pay10]
    exact counts_ite 4 (by decide) _ _
  · show kept5 v (ix2 i j) = _
    pointwise [kept5, k0_pay11]
    exact counts_ite 5 (by decide) _ _
  · show kept6 v (ix2 i j) = _
    pointwise [kept6, k0_pay12]
    exact counts_ite 6 (by decide) _ _
  · show kept7 v (ix2 i j) = _
    pointwise [kept7, k0_pay13]
    exact counts_ite 7 (by decide) _ _
  · show kept8 v (ix2 i j) = _
    pointwise [kept8, k0_pay14]
    exact counts_ite 8 (by decide) _ _

theorem step_read (k : Fin 9) (i j : Fin 48) : step v k (ix2 i j) = Hog.steps (fun k => pooled (kept v k) i j) k := by
  fin_cases k
  · show step0 v (ix2 i j) = _
    pointwise [step0, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step1 v (ix2 i j) = _
    pointwise [step1, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step2 v (ix2 i j) = _
    pointwise [step2, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step3 v (ix2 i j) = _
    pointwise [step3, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step4 v (ix2 i j) = _
    pointwise [step4, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step5 v (ix2 i j) = _
    pointwise [step5, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step6 v (ix2 i j) = _
    pointwise [step6, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step7 v (ix2 i j) = _
    pointwise [step7, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl
  · show step8 v (ix2 i j) = _
    pointwise [step8, k0_pay21, k0_pay22, k0_pay23, k0_pay24, k0_pay25, k0_pay26, k0_pay27, k0_pay28, k0_pay29, k0_pay30, k0_pay31, k0_pay32, k0_pay33, k0_pay34, k0_pay35, k0_pay36, k0_pay37]
    rfl

theorem root_read (i j : Fin 48) : root v (ix2 i j) = Ideal.sqrt (∑ k, step v k (ix2 i j) * step v k (ix2 i j)) := by
  rw [Fin.sum_univ_castSucc, Fin.sum_univ_eight]
  pointwise [root, k0_pay38]
  rfl

/-- One entry of a plane: the histogram step times the reciprocal of the floored norm. -/
theorem plane_read (k : Fin 9) (i j : Fin 48) :
    plane v k (ix2 i j) = step v k (ix2 i j) * Ideal.div 1 (Hog.scale fun k => step v k (ix2 i j)) := by
  unfold Hog.scale
  rw [← root_read]
  fin_cases k
  · show k0_pay40 (step0 v) (root v) (Scalar.ofBits .f32 0x2B8CBCCC#32) (ix2 i j) = _
    pointwise [k0_pay40, k0_pay39]
    rfl
  · show k0_pay41 (step1 v) (root v) (Scalar.ofBits .f32 0x2B8CBCCC#32) (ix2 i j) = _
    pointwise [k0_pay41, k0_pay39]
    rfl
  · show k0_pay42 (step2 v) (root v) (Scalar.ofBits .f32 0x2B8CBCCC#32) (ix2 i j) = _
    pointwise [k0_pay42, k0_pay39]
    rfl
  · show k0_pay43 (step3 v) (root v) (Scalar.ofBits .f32 0x2B8CBCCC#32) (ix2 i j) = _
    pointwise [k0_pay43, k0_pay39]
    rfl
  · show k0_pay44 (step4 v) (root v) (Scalar.ofBits .f32 0x2B8CBCCC#32) (ix2 i j) = _
    pointwise [k0_pay44, k0_pay39]
    rfl
  · show k0_pay45 (step5 v) (root v) (Scalar.ofBits .f32 0x2B8CBCCC#32) (ix2 i j) = _
    pointwise [k0_pay45, k0_pay39]
    rfl
  · show k0_pay46 (step6 v) (root v) (Scalar.ofBits .f32 0x2B8CBCCC#32) (ix2 i j) = _
    pointwise [k0_pay46, k0_pay39]
    rfl
  · show k0_pay47 (step7 v) (root v) (Scalar.ofBits .f32 0x2B8CBCCC#32) (ix2 i j) = _
    pointwise [k0_pay47, k0_pay39]
    rfl
  · show k0_pay48 (step8 v) (root v) (Scalar.ofBits .f32 0x2B8CBCCC#32) (ix2 i j) = _
    pointwise [k0_pay48, k0_pay39]
    rfl

/-- One entry of a plane, from the channel's image: `n` is the magnitude and `above` the kernel's comparison at the
64 pixels of the cell. -/
theorem plane_cell (k : Fin 9) (i j : Fin 48) :
    plane v k (ix2 i j) =
      Hog.steps (fun k => Hog.massOf (fun p : Fin 8 × Fin 8 => k0_pay5 v (ix2 (pix i p.1) (pix (cellCol j) p.2)))
          fun p => counts k (k0_pay6 v (ix2 (pix i p.1) (pix (cellCol j) p.2)))) k *
        Ideal.div 1 (Hog.scale (Hog.steps fun k => Hog.massOf (fun p : Fin 8 × Fin 8 => k0_pay5 v (ix2 (pix i p.1) (pix (cellCol j) p.2)))
          fun p => counts k (k0_pay6 v (ix2 (pix i p.1) (pix (cellCol j) p.2))))) := by
  have h : (fun k => step v k (ix2 i j)) = Hog.steps fun k => Hog.massOf (fun p : Fin 8 × Fin 8 => k0_pay5 v (ix2 (pix i p.1) (pix (cellCol j) p.2)))
          fun p => counts k (k0_pay6 v (ix2 (pix i p.1) (pix (cellCol j) p.2))) := by
    funext k
    rw [step_read]
    congr 1
    funext k
    rw [pooled_eq]
    exact Finset.sum_congr rfl fun p _ => kept_read v k _ _
  rw [plane_read, h, ← congrFun h k]

end Cert.KernelIdeal.Hog
end
-- ==== Proof.Weights.lean ====
module

public import proofs.«01_k».proof.Pre_sobel_weights
public import proofs.«01_k».proof.Proof.Consts
public import proofs.«01_k».proof.Proof.Pixels
public import Idealize.ShloMosaic.Lib.Affine

@[expose] public section
set_option maxRecDepth 16384
noncomputable section

/-! What the precondition says: every channel's weights are the two Sobel stencils. -/

namespace Cert.Pre_sobel_weights.Hog

open Cert.Pre_sobel_weights Idealize.ShloMosaic Idealize.SL.Sem

/-- The side conditions of the precondition's operations. -/
theorem facts : Facts where
  bcast_S3x3_S1x1x3x3_2_3 := by decide
  bcast_S1x1x3x3_S3x1x3x3_0_1_2_3 := by decide

/-- A comparison's bit is one exactly where the comparison holds. -/
theorem ofBool_iff (p : Prop) [Decidable p] : BitVec.ofBool (decide p) = 1#1 ↔ p := by
  by_cases h : p <;> simp [h]

variable [Facts] (x : FVec Ideal S16x3x384x384 .f32) (wx wy : FVec Ideal S3x1x3x3 .f32)

theorem weights_bits (h : fn (F := Ideal) x wx wy = fun _ => 1#1) (c i j : Fin 3) :
    wx (ix4 c 0 i j) = Ideal.ofBits .f32 (lit0 (S3x3.rowMajor (ix2 i j)))
      ∧ wy (ix4 c 0 i j) = Ideal.ofBits .f32 (lit1 (S3x3.rowMajor (ix2 i j))) := by
  have e : fn (F := Ideal) x wx wy (ix4 c 0 i j) = 1#1 := congrFun h _
  revert e
  pointwise [fn]
  intro e
  rw [IntOp.andi_eq_one, ofBool_iff, ofBool_iff] at e
  exact e

/-- The horizontal weights are the horizontal Sobel stencil. -/
theorem weightsX (h : fn (F := Ideal) x wx wy = fun _ => 1#1) (c i j : Fin 3) :
    wx (ix4 c 0 i j) = Hog.sobelX i j := by
  rw [(weights_bits x wx wy h c i j).1]
  fin_cases i <;> fin_cases j
  · exact Hog.ofBits_one
  · exact Ideal.ofBits_zero_f32
  · exact Hog.ofBits_neg_one
  · exact Hog.ofBits_two
  · exact Ideal.ofBits_zero_f32
  · exact Hog.ofBits_neg_two
  · exact Hog.ofBits_one
  · exact Ideal.ofBits_zero_f32
  · exact Hog.ofBits_neg_one

/-- The vertical weights are the vertical Sobel stencil. -/
theorem weightsY (h : fn (F := Ideal) x wx wy = fun _ => 1#1) (c i j : Fin 3) :
    wy (ix4 c 0 i j) = Hog.sobelY i j := by
  rw [(weights_bits x wx wy h c i j).2]
  fin_cases i <;> fin_cases j
  · exact Hog.ofBits_one
  · exact Hog.ofBits_two
  · exact Hog.ofBits_one
  · exact Ideal.ofBits_zero_f32
  · exact Ideal.ofBits_zero_f32
  · exact Ideal.ofBits_zero_f32
  · exact Hog.ofBits_neg_one
  · exact Hog.ofBits_neg_two
  · exact Hog.ofBits_neg_one

end Cert.Pre_sobel_weights.Hog

end
-- ==== Proof.Clear.lean ====
module

public import proofs.«01_k».proof.On_clear_of_edges
public import proofs.«01_k».proof.Proof.RefGrad
public import proofs.«01_k».proof.Proof.Plane
public import proofs.«01_k».proof.Proof.Weights
public import Idealize.ShloMosaic.Lib.Routing.OpsOrder

@[expose] public section
set_option maxRecDepth 16384
noncomputable section

/-! What the mask says: where it is set, no pixel of the cell has its slope between an exact bin edge and the
kernel's rounded copy of that edge. -/

namespace Cert.On_clear_of_edges.Hog

open Cert.On_clear_of_edges Idealize.ShloMosaic Idealize.SL.Sem
open Cert.KernelIdeal.Hog (pix edgeBits)
open Cert.Pre_sobel_weights.Hog (ofBool_iff)

/-- The side conditions of the mask's operations. -/
theorem facts : Facts where
  slices_S16x3x384x384_S16x3x1x384_0_0_0_0 := by decide
  slices_S16x3x384x384_S16x3x1x384_0_0_1_0 := by decide
  concatenates_S16x3x1x384_S16x3x384x384_S16x3x385x384_d2 := by decide
  slices_S16x3x385x384_S16x3x1x384_0_0_384_0 := by decide
  slices_S16x3x385x384_S16x3x1x384_0_0_383_0 := by decide
  concatenates_S16x3x385x384_S16x3x1x384_S16x3x386x384_d2 := by decide
  slices_S16x3x386x384_S16x3x386x1_0_0_0_0 := by decide
  slices_S16x3x386x384_S16x3x386x1_0_0_0_1 := by decide
  concatenates_S16x3x386x1_S16x3x386x384_S16x3x386x385_d3 := by decide
  slices_S16x3x386x385_S16x3x386x1_0_0_0_384 := by decide
  slices_S16x3x386x385_S16x3x386x1_0_0_0_383 := by decide
  concatenates_S16x3x386x385_S16x3x386x1_S16x3x386x386_d3 := by decide
  slices_S3x1x3x3_S3x1x1x1_0_0_0_0 := by decide
  shapeCasts_S3x1x1x1_S3 := by decide
  bcast_S3_S1x3x1x1_1 := by decide
  slices_S16x3x386x386_S16x3x384x384_0_0_0_0 := by decide
  bcast_S1x3x1x1_S16x3x384x384_0_1_2_3 := by decide
  bcast_S_S16x3x384x384 := by decide
  slices_S3x1x3x3_S3x1x1x1_0_0_0_1 := by decide
  slices_S16x3x386x386_S16x3x384x384_0_0_0_1 := by decide
  slices_S3x1x3x3_S3x1x1x1_0_0_0_2 := by decide
  slices_S16x3x386x386_S16x3x384x384_0_0_0_2 := by decide
  slices_S3x1x3x3_S3x1x1x1_0_0_1_0 := by decide
  slices_S16x3x386x386_S16x3x384x384_0_0_1_0 := by decide
  slices_S3x1x3x3_S3x1x1x1_0_0_1_1 := by decide
  slices_S16x3x386x386_S16x3x384x384_0_0_1_1 := by decide
  slices_S3x1x3x3_S3x1x1x1_0_0_1_2 := by decide
  slices_S16x3x386x386_S16x3x384x384_0_0_1_2 := by decide
  slices_S3x1x3x3_S3x1x1x1_0_0_2_0 := by decide
  slices_S16x3x386x386_S16x3x384x384_0_0_2_0 := by decide
  slices_S3x1x3x3_S3x1x1x1_0_0_2_1 := by decide
  slices_S16x3x386x386_S16x3x384x384_0_0_2_1 := by decide
  slices_S3x1x3x3_S3x1x1x1_0_0_2_2 := by decide
  slices_S16x3x386x386_S16x3x384x384_0_0_2_2 := by decide
  shapeCasts_S16x3x384x384_S16x3x48x8x48x8 := by decide
  reducesTo_S16x3x48x8x48x8_S16x3x48x48_d3_5 := by decide
  h_S_ := by decide
  shapeCasts_S16x3x48x48_S16x3x24x2x24x2 := by decide
  transposes_S16x3x24x2x24x2_S16x24x24x3x2x2_0_2_4_1_3_5 := by decide
  shapeCasts_S16x24x24x3x2x2_S16x576x3x1x4 := by decide
  bcast_S16x576x3x1x4_S16x576x3x9x4_0_1_2_3_4 := by decide
  shapeCasts_S16x576x3x9x4_S16x576x108 := by decide

/-- The bin numbers one to eight as the mask writes them. -/
def numeral (k : Fin 9) : BitVec 32 :=
  match k with
  | 0 => 0#32
  | 1 => 1065353216#32
  | 2 => 1073741824#32
  | 3 => 1077936128#32
  | 4 => 1082130432#32
  | 5 => 1084227584#32
  | 6 => 1086324736#32
  | 7 => 1088421888#32
  | 8 => 1090519040#32

/-- The exact bin edge as the mask computes it from its half turn `t`. -/
def exactEdge (t : EReal) (k : Fin 9) : EReal :=
  Ideal.div (Ideal.cos (Ideal.div (t * Ideal.ofBits .f32 (numeral k)) (Ideal.ofBits .f32 1091567616#32)))
    (Ideal.sin (Ideal.div (t * Ideal.ofBits .f32 (numeral k)) (Ideal.ofBits .f32 1091567616#32)))

theorem exactEdge_one (t : EReal) :
    exactEdge t 1 = Ideal.div (Ideal.cos (Ideal.div t (Ideal.ofBits .f32 1091567616#32)))
      (Ideal.sin (Ideal.div t (Ideal.ofBits .f32 1091567616#32))) := by
  have e : t * Ideal.ofBits .f32 (numeral 1) = t := by
    show t * Ideal.ofBits .f32 1065353216#32 = t
    rw [Hog.ofBits_one]
    exact mul_one t
  unfold exactEdge
  rw [e]

/-- The slope `s` lies between the exact and the rounded edge `k`. -/
def between (t : EReal) (k : Fin 9) (s : EReal) : Prop :=
  min (exactEdge t k) (Ideal.ofBits .f32 (edgeBits k)) < s ∧ s ≤ max (exactEdge t k) (Ideal.ofBits .f32 (edgeBits k))

variable [Facts]

/-- The mask's last part, started from a half turn and an array of slopes. -/
def ofSlopes (t : FVec Ideal S_ .f32) (s : FVec Ideal S16x3x384x384 .f32) : IVec S16x576x108 1 :=
  fn_part6 (F := Ideal) t s (broadcastInDim S16x3x384x384 ![] Facts.bcast_S_S16x3x384x384 (constantI S_ 1 0#1))
    (Host.cos (Host.divf (mulf t (constant S_ .f32 0x3F800000#32)) (constant S_ .f32 0x41100000#32)))
    (Host.sin (Host.divf (mulf t (constant S_ .f32 0x3F800000#32)) (constant S_ .f32 0x41100000#32)))

/-- The mask is computed from the reference's own gradients. -/
theorem fn_eq (x : FVec Ideal S16x3x384x384 .f32) (wx wy : FVec Ideal S3x1x3x3 .f32) :
    fn (F := Ideal) x wx wy = ofSlopes (Host.atan2 (constant S_ .f32 0x00000000#32) (constant S_ .f32 0xBF800000#32))
      (Host.divf (ReferenceIdeal.Read.val_main_v128 (F := Ideal) x wy) (ReferenceIdeal.Read.val_main_v64 (F := Ideal) x wx)) := by
  unfold fn fn_part1 fn_part2 fn_part3 fn_part4 fn_part5
  rfl

/-- Where the mask is set, no slope of the cell lies between an exact and a rounded edge. -/
theorem ofSlopes_read (t : FVec Ideal S_ .f32) (s : FVec Ideal S16x3x384x384 .f32) (b : Fin 16) (r : Fin 576) (q : Fin 108)
    (h : ofSlopes t s (ix3 b r q) = 1#1) (p : Fin 8 × Fin 8) (k : Fin 9) (hk : k ≠ 0) :
    ¬ between (t ix0) k (s (ix4 b ⟨q.val / 4 / 9, by omega⟩
      (pix ⟨r.val / 24 * 2 + q.val / 2 % 2, by omega⟩ p.1) (pix ⟨r.val % 24 * 2 + q.val % 2, by omega⟩ p.2))) := by
  have e1 : (⟨q.val / 36, by omega⟩ : Fin 3) = ⟨q.val / 4 / 9, by omega⟩ := Fin.ext (by dsimp only; omega)
  have e2 : (⟨r.val / 24 * 2 + q.val % 4 / 2, by omega⟩ : Fin 48) = ⟨r.val / 24 * 2 + q.val / 2 % 2, by omega⟩ :=
    Fin.ext (by dsimp only; omega)
  have e3 : (⟨r.val % 24 * 2 + q.val % 4 % 2, by omega⟩ : Fin 48) = ⟨r.val % 24 * 2 + q.val % 2, by omega⟩ :=
    Fin.ext (by dsimp only; omega)
  revert h
  unfold ofSlopes
  pointwise [fn_part6, fn_part7, fn_part8, fn_part9, fn_part10, fn_part11]
  rw [e1, e2, e3]
  generalize (⟨q.val / 4 / 9, by omega⟩ : Fin 3) = c
  generalize (⟨r.val / 24 * 2 + q.val / 2 % 2, by omega⟩ : Fin 48) = i
  generalize (⟨r.val % 24 * 2 + q.val % 2, by omega⟩ : Fin 48) = j
  intro h
  rw [IntOp.not_eq_one, Routing.fold_ori] at h
  intro hb
  refine h ⟨ix6 b c i p.1 j p.2, ?_, ?_⟩
  · rw [Finset.mem_filter]
    refine ⟨Finset.mem_univ _, ?_⟩
    funext a
    fin_cases a <;> rfl
  · simp only [IntOp.ori_eq_one, IntOp.andi_eq_one, ofBool_iff]
    fin_cases k
    · exact absurd rfl hk
    · have hb' : between (t ix0) 1 (s (ix4 b c (pix i p.1) (pix j p.2))) := hb
      unfold between at hb'
      rw [exactEdge_one] at hb'
      exact Or.inl (Or.inl (Or.inl (Or.inl (Or.inl (Or.inl (Or.inl (Or.inr hb')))))))
    · exact Or.inl (Or.inl (Or.inl (Or.inl (Or.inl (Or.inl (Or.inr hb))))))
    · exact Or.inl (Or.inl (Or.inl (Or.inl (Or.inl (Or.inr hb)))))
    · exact Or.inl (Or.inl (Or.inl (Or.inl (Or.inr hb))))
    · exact Or.inl (Or.inl (Or.inl (Or.inr hb)))
    · exact Or.inl (Or.inl (Or.inr hb))
    · exact Or.inl (Or.inr hb)
    · exact Or.inr hb

end Cert.On_clear_of_edges.Hog

end
-- ==== Proof.Edges.lean ====
module

public import proofs.«01_k».proof.Proof.Clear

@[expose] public section
set_option maxRecDepth 16384
noncomputable section

/-! Away from the edges, comparing the slope with the rounded edges finds the orientation bin. -/

namespace Cert.On_clear_of_edges.Hog

open Idealize.ShloMosaic
open Cert.KernelIdeal.Hog (counts edgeBits)

theorem numeral_eq (k : Fin 9) (hk : k ≠ 0) : Ideal.ofBits .f32 (numeral k) = ((k.val : ℝ) : EReal) := by
  fin_cases k
  · exact absurd rfl hk
  · exact Hog.ofBits_one.trans (by norm_num)
  · exact Hog.ofBits_two.trans (by norm_num)
  · exact Hog.ofBits_three.trans (by norm_num)
  · exact Hog.ofBits_four.trans (by norm_num)
  · exact Hog.ofBits_five.trans (by norm_num)
  · exact Hog.ofBits_six.trans (by norm_num)
  · exact Hog.ofBits_seven.trans (by norm_num)
  · exact Hog.ofBits_eight.trans (by norm_num)

theorem edgeBits_ne_top (k : Fin 9) (hk : k ≠ 0) : Ideal.ofBits .f32 (edgeBits k) ≠ ⊤ := by
  fin_cases k
  · exact absurd rfl hk
  · exact Hog.ofBits_edge1
  · exact Hog.ofBits_edge2
  · exact Hog.ofBits_edge3
  · exact Hog.ofBits_edge4
  · exact Hog.ofBits_edge5
  · exact Hog.ofBits_edge6
  · exact Hog.ofBits_edge7
  · exact Hog.ofBits_edge8

/-- At half a turn, the mask's exact edge is the cotangent of `k` ninths of half a turn. -/
theorem exactEdge_pi (k : Fin 9) (hk : k ≠ 0) : exactEdge ((Real.pi : ℝ) : EReal) k = ((Hog.edge k.val : ℝ) : EReal) := by
  have h1 : 1 ≤ k.val := Nat.one_le_iff_ne_zero.2 fun h => hk (Fin.ext h)
  have h8 : k.val ≤ 8 := by omega
  have ha : Ideal.div (((Real.pi : ℝ) : EReal) * Ideal.ofBits .f32 (numeral k)) (Ideal.ofBits .f32 1091567616#32)
      = ((Real.pi * k.val / 9 : ℝ) : EReal) := by
    rw [numeral_eq k hk, Hog.ofBits_nine, Ideal.div_coe (by norm_num), ← EReal.coe_mul, ← EReal.coe_mul]
    congr 1
    ring
  have hk1 : (1 : ℝ) ≤ k.val := by exact_mod_cast h1
  have hk8 : (k.val : ℝ) ≤ 8 := by exact_mod_cast h8
  have hpi := Real.pi_pos
  have hs : Real.sin (Real.pi * k.val / 9) ≠ 0 := (Real.sin_pos_of_pos_of_lt_pi (by positivity) (by nlinarith)).ne'
  unfold exactEdge Hog.edge
  rw [ha, Ideal.cos_coe, Ideal.sin_coe, Ideal.div_coe hs, ← EReal.coe_mul]
  congr 1
  ring

/-- A value that is not between two bounds is on the same side of both. -/
theorem same_side (s e r : EReal) (h : ¬(min e r < s ∧ s ≤ max e r)) : s ≤ r ↔ s ≤ e := by
  rcases le_total e r with he | he
  · rw [min_eq_left he, max_eq_right he] at h
    exact ⟨fun hs => le_of_not_gt fun hl => h ⟨hl, hs⟩, fun hs => hs.trans he⟩
  · rw [min_eq_right he, max_eq_left he] at h
    exact ⟨fun hs => hs.trans he, fun hs => le_of_not_gt fun hl => h ⟨hl, hs⟩⟩

/-- A gradient pointing straight up has slope `⊤`. -/
theorem slope_up (gx gy : EReal) (h : gx = 0 ∧ gy < 0) : Hog.slope gx gy = ⊤ := by
  have e : IntOp.andi (BitVec.ofBool (decide (gx = 0))) (BitVec.ofBool (decide (gy < 0))) = 1 := by
    rw [decide_eq_true h.1, decide_eq_true h.2]
    rfl
  unfold Hog.slope Scalar.select
  rw [if_pos e, Hog.ofBits_inf]

/-- Any other gradient's slope is the quotient. -/
theorem slope_other (gx gy : EReal) (h : ¬(gx = 0 ∧ gy < 0)) : Hog.slope gx gy = Ideal.div gy gx := by
  have e : ¬ IntOp.andi (BitVec.ofBool (decide (gx = 0))) (BitVec.ofBool (decide (gy < 0))) = 1#1 := by
    rw [IntOp.andi_eq_one, Cert.Pre_sobel_weights.Hog.ofBool_iff, Cert.Pre_sobel_weights.Hog.ofBool_iff]
    exact h
  unfold Hog.slope Scalar.select
  exact if_neg e

/-- For a real, non-zero gradient whose quotient is clear of edge `k`, the slope counts at the rounded edge exactly
when the bin is at least `k`. -/
theorem counts_iff (p q : ℝ) (h : p ≠ 0 ∨ q ≠ 0) (k : Fin 9)
    (hb : k ≠ 0 → ¬ between ((Real.pi : ℝ) : EReal) k (Ideal.div q p)) :
    counts k (Hog.slope p q) ↔ k.val ≤ Hog.bin p q := by
  by_cases hk : k = 0
  · subst hk
    exact ⟨fun _ => Nat.zero_le _, fun _ => Or.inl rfl⟩
  have h1 : 1 ≤ k.val := Nat.one_le_iff_ne_zero.2 fun h => hk (Fin.ext h)
  rw [← Hog.slope_le_edge p q h k.val h1 (by omega)]
  have hc : counts k (Hog.slope p q) ↔ Hog.slope p q ≤ Ideal.ofBits .f32 (edgeBits k) :=
    ⟨fun h => h.resolve_left hk, Or.inr⟩
  rw [hc]
  by_cases hu : (p : EReal) = 0 ∧ (q : EReal) < 0
  · rw [slope_up _ _ hu, top_le_iff, top_le_iff]
    exact ⟨fun h => absurd h (edgeBits_ne_top k hk), fun h => absurd h (EReal.coe_ne_top _)⟩
  · have hn := hb hk
    unfold between at hn
    rw [exactEdge_pi k hk] at hn
    rw [slope_other _ _ hu]
    exact same_side _ _ _ hn

end Cert.On_clear_of_edges.Hog

end
-- ==== Proof.RefBins.lean ====
module

public import proofs.«01_k».proof.Proof.Gen.ReferenceIdeal.Read
public import proofs.«01_k».proof.Proof.Bins
public import Idealize.ShloMosaic.Lib.Pointwise

@[expose] public section
set_option maxRecDepth 16384
noncomputable section

/-! The reference's orientation bin of one pixel, and the index vector its scatter uses: image, channel, bin,
row, column. -/

namespace Cert.ReferenceIdeal.Hog

open Cert.ReferenceIdeal Cert.ReferenceIdeal.Gen Cert.ReferenceIdeal.Read Idealize.ShloMosaic Idealize.SL.Sem

/-- A bin number read as a signed word. -/
theorem word_toInt (n : ℕ) (h : n < 384) : (BitVec.ofNat 32 n).toInt = n := by
  rw [BitVec.toInt_ofNat', Int.bmod_eq_of_le] <;> omega

/-- Turning a negative index round does nothing to a small non-negative one. -/
theorem keep_index (n : ℕ) (h : n < 384) (d : BitVec 32) :
    Scalar.select (IntOp.cmpi .slt (BitVec.ofNat 32 n) 0#32) (IntOp.addi (BitVec.ofNat 32 n) d) (BitVec.ofNat 32 n)
      = BitVec.ofNat 32 n := by
  have h0 : (0#32).toInt = 0 := rfl
  have : ¬ IntOp.cmpi .slt (BitVec.ofNat 32 n) 0#32 = 1 := by
    show ¬ IntOp.cmpi .slt (BitVec.ofNat 32 n) 0#32 = 1#1
    rw [IntOp.cmpi_slt, word_toInt n h, h0]
    omega
  rw [Scalar.select, if_neg this]

variable (x : FVec Ideal S16x3x384x384 .f32) (wx wy : FVec Ideal S3x1x3x3 .f32) (b : Fin 16) (c : Fin 3)
  (r q : Fin 384)

/-- The bin number the reference computes at a pixel. -/
def binAt : ℕ := Hog.bin (val_main_v64 (F := Ideal) x wx (ix4 b c r q)) (val_main_v128 (F := Ideal) x wy (ix4 b c r q))

theorem binAt_lt : binAt x wx wy b c r q < 9 := Hog.bin_lt _ _

theorem bin_word : val_main_v141 (F := Ideal) x wx wy (ix4 b c r q) = BitVec.ofNat 32 (binAt x wx wy b c r q) := by
  pointwise [val_main_v141, val_main_call1_v14, val_main_call1_v13, val_main_call1_v12, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_c, val_main_call1_c_0, val_main_call1_c_1, val_main_call1_c_2, val_main_call1_c_3, val_main_c_4]
  pointwise [val_main_v140, val_main_v139, val_main_v138, val_main_v137, val_main_v136, val_main_v135, val_main_v134, val_main_v133, val_main_cst_1, val_main_cst_2, val_main_cst_3]
  exact Hog.wrapNine_eq _

theorem bin_index : val_main_v165 (F := Ideal) x wx wy (ix4 b c r q) = BitVec.ofNat 32 (binAt x wx wy b c r q) := by
  pointwise [val_main_v165, val_main_v164, val_main_v163, val_main_v162, val_main_v161, val_main_c_10, val_main_c_11]
  rw [bin_word]
  exact keep_index _ (lt_trans (binAt_lt ..) (by omega)) _

theorem image_index : val_main_v176 (F := Ideal) (ix4 b c r q) = BitVec.ofNat 32 b.val := by
  pointwise [val_main_v176, val_main_v155, val_main_v154, val_main_v153, val_main_v152, val_main_v151, val_main_v143, val_main_v142, val_main_c_6, val_main_c_7]
  exact keep_index _ (by omega) _

theorem channel_index : val_main_v177 (F := Ideal) (ix4 b c r q) = BitVec.ofNat 32 c.val := by
  pointwise [val_main_v177, val_main_v160, val_main_v159, val_main_v158, val_main_v157, val_main_v156, val_main_v145, val_main_v144, val_main_c_8, val_main_c_9]
  exact keep_index _ (by omega) _

theorem row_index : val_main_v178 (F := Ideal) (ix4 b c r q) = BitVec.ofNat 32 r.val := by
  pointwise [val_main_v178, val_main_v170, val_main_v169, val_main_v168, val_main_v167, val_main_v166, val_main_v147, val_main_v146, val_main_c_12, val_main_c_13]
  exact keep_index _ (by omega) _

theorem col_index : val_main_v179 (F := Ideal) (ix4 b c r q) = BitVec.ofNat 32 q.val := by
  pointwise [val_main_v179, val_main_v175, val_main_v174, val_main_v173, val_main_v172, val_main_v171, val_main_v149, val_main_v148, val_main_c_14, val_main_c_15]
  exact keep_index _ (by omega) _

/-- The scatter's index vector at a pixel: image, channel, bin, row, column. -/
theorem index_read (j : Fin 5) :
    (val_main_v185 (F := Ideal) x wx wy (ix5 b c r q j)).toInt
      = (![(b.val : ℤ), c.val, binAt x wx wy b c r q, r.val, q.val] j) := by
  have hb := binAt_lt x wx wy b c r q
  fin_cases j
  · show (val_main_v185 (F := Ideal) x wx wy (ix5 b c r q 0)).toInt = _
    pointwise [val_main_v185, val_main_v180]
    rw [image_index, word_toInt _ (by omega)]
  · show (val_main_v185 (F := Ideal) x wx wy (ix5 b c r q 1)).toInt = _
    pointwise [val_main_v185, val_main_v181]
    rw [channel_index, word_toInt _ (by omega)]
  · show (val_main_v185 (F := Ideal) x wx wy (ix5 b c r q 2)).toInt = _
    pointwise [val_main_v185, val_main_v182]
    rw [bin_index, word_toInt _ (by omega)]
  · show (val_main_v185 (F := Ideal) x wx wy (ix5 b c r q 3)).toInt = _
    pointwise [val_main_v185, val_main_v183]
    rw [row_index, word_toInt _ (by omega)]
  · show (val_main_v185 (F := Ideal) x wx wy (ix5 b c r q 4)).toInt = _
    pointwise [val_main_v185, val_main_v184]
    rw [col_index, word_toInt _ (by omega)]

end Cert.ReferenceIdeal.Hog

end
-- ==== Proof.RefHist.lean ====
module

public import proofs.«01_k».proof.Proof.RefBins
public import proofs.«01_k».proof.Proof.RefGrad
public import proofs.«01_k».proof.Proof.Pool
public import Idealize.ShloMosaic.Lib.Routing.OpsPair

@[expose] public section
set_option maxRecDepth 16384
noncomputable section

/-! The reference's histograms. The scatter puts each pixel's gradient length into the plane of its bin; summing
each plane over the 64 pixels of a cell gives the cell's histogram, which is then divided by its length. -/

namespace Cert.ReferenceIdeal.Hog

open Cert.ReferenceIdeal Cert.ReferenceIdeal.Gen Cert.ReferenceIdeal.Read Idealize.ShloMosaic Idealize.SL.Sem
open Cert.KernelIdeal.Hog (pix)

variable (x : FVec Ideal S16x3x384x384 .f32) (wx wy : FVec Ideal S3x1x3x3 .f32)

/-- The scatter's five dimension numbers, under a short name. -/
abbrev dims : ScatterDims S16x3x9x384x384 S16x3x384x384x5 S16x3x384x384 :=
  scatter_S16x3x9x384x384_S16x3x384x384x5_S16x3x384x384_n_01234_01234_4

theorem siIdx_eq (b : Fin 16) (c : Fin 3) (r q : Fin 384) (a : Fin 5) :
    dims.siIdx (ix4 b c r q) a = ix5 b c r q a := by
  funext e
  fin_cases e <;> rfl

theorem window_eq (j : S16x3x384x384.Idx) (a : Fin 5) : dims.window j a = 0 := by
  fin_cases a <;> rfl

theorem start_eq (b : Fin 16) (c : Fin 3) (r q : Fin 384) (idx : IVec S16x3x384x384x5 32) (a : Fin 5) :
    dims.start (ix4 b c r q) idx a = (idx (ix5 b c r q a)).toInt := by
  rw [← siIdx_eq]
  fin_cases a <;> rfl

/-- A pixel's update lands at its image, channel, bin, row and column. -/
theorem lands (b b' : Fin 16) (c c' : Fin 3) (k : Fin 9) (r r' q q' : Fin 384) :
    dims.resultIdx? (ix4 b' c' r' q') (val_main_v185 (F := Ideal) x wx wy) = some (ix5 b c k r q)
      ↔ (b' = b ∧ c' = c ∧ r' = r ∧ q' = q) ∧ binAt x wx wy b' c' r' q' = k.val := by
  rw [Routing.resultIdx?_eq_some]
  simp only [start_eq, window_eq, index_read]
  constructor
  · intro h
    have h0 := h 0
    have h1 := h 1
    have h2 := h 2
    have h3 := h 3
    have h4 := h 4
    change (b'.val : ℤ) + 0 = b.val at h0
    change (c'.val : ℤ) + 0 = c.val at h1
    change (binAt x wx wy b' c' r' q' : ℤ) + 0 = k.val at h2
    change (r'.val : ℤ) + 0 = r.val at h3
    change (q'.val : ℤ) + 0 = q.val at h4
    exact ⟨⟨Fin.ext (by omega), Fin.ext (by omega), Fin.ext (by omega), Fin.ext (by omega)⟩, by omega⟩
  · rintro ⟨⟨rfl, rfl, rfl, rfl⟩, h⟩ a
    fin_cases a
    · exact add_zero _
    · exact add_zero _
    · show (binAt x wx wy b' c' r' q' : ℤ) + 0 = k.val
      omega
    · exact add_zero _
    · exact add_zero _

/-- The scattered planes: plane `k` holds the gradient's length where the bin is `k`, and zero elsewhere. -/
theorem planes_read (b : Fin 16) (c : Fin 3) (k : Fin 9) (r q : Fin 384) :
    val_main_v186 (F := Ideal) x wx wy (ix5 b c k r q)
      = if binAt x wx wy b c r q = k.val then val_main_v132 (F := Ideal) x wx wy (ix4 b c r q) else 0 := by
  have h0 : val_main_v150 (F := Ideal) (ix5 b c k r q) = 0 := by
    pointwise [val_main_v150, val_main_cst_5]
  show val_main_v150 (F := Ideal) (ix5 b c k r q) + ∑ j ∈ Finset.univ.filter
    (fun j => dims.resultIdx? j (val_main_v185 (F := Ideal) x wx wy) = some (ix5 b c k r q)),
      val_main_v132 (F := Ideal) x wx wy j = _
  rw [h0, zero_add (M := EReal), Finset.sum_filter, Finset.sum_eq_single (ix4 b c r q)]
  · simp only [lands, and_self, true_and]
  · intro j _ hj
    refine if_neg fun h => hj ?_
    rw [eq_ix4 j] at h ⊢
    obtain ⟨⟨h1, h2, h3, h4⟩, _⟩ := (lands x wx wy b _ c _ k r _ q _).1 h
    rw [h1, h2, h3, h4]
  · intro h
    exact absurd (Finset.mem_univ _) h

/-- The seven-axis indices that drop to one cell are that cell's 64 pixels. -/
theorem cell_fiber (b : Fin 16) (c : Fin 3) (k : Fin 9) (r q : Fin 48) (i : S16x3x9x48x8x48x8.Idx) :
    reducesTo_S16x3x9x48x8x48x8_S16x3x9x48x48_d4_6.drop i = ix5 b c k r q
      ↔ ∃ p : Fin 8 × Fin 8, (ix7 b c k r p.1 q p.2 : S16x3x9x48x8x48x8.Idx) = i := by
  constructor
  · intro e
    refine ⟨(i 4, i 6), ?_⟩
    funext a
    apply Fin.ext
    fin_cases a
    · exact (congrArg Fin.val (congrFun e 0)).symm
    · exact (congrArg Fin.val (congrFun e 1)).symm
    · exact (congrArg Fin.val (congrFun e 2)).symm
    · exact (congrArg Fin.val (congrFun e 3)).symm
    · rfl
    · exact (congrArg Fin.val (congrFun e 4)).symm
    · rfl
  · rintro ⟨p, rfl⟩
    funext a
    fin_cases a <;> rfl

/-- The histogram of one cell: bin `k` holds the summed lengths of the cell's gradients in that bin. -/
theorem hist_read (b : Fin 16) (c : Fin 3) (k : Fin 9) (r q : Fin 48) :
    val_main_v188 (F := Ideal) x wx wy (ix5 b c k r q)
      = Hog.massOf (fun p : Fin 8 × Fin 8 => val_main_v132 (F := Ideal) x wx wy (ix4 b c (pix r p.1) (pix q p.2)))
          fun p => binAt x wx wy b c (pix r p.1) (pix q p.2) = k.val := by
  have h0 : val_main_cst_16 (F := Ideal) (Shape.Idx.first h_S_) = 0 := by
    pointwise [val_main_cst_16]
  have h1 : ∀ p : Fin 8 × Fin 8, val_main_v187 (F := Ideal) x wx wy (ix7 b c k r p.1 q p.2)
      = val_main_v186 (F := Ideal) x wx wy (ix5 b c k (pix r p.1) (pix q p.2)) := fun p => by
    pointwise [val_main_v187]
    rfl
  have h2 : val_main_v188 (F := Ideal) x wx wy (ix5 b c k r q)
      = Ideal.hostReduceAdd reducesTo_S16x3x9x48x8x48x8_S16x3x9x48x48_d4_6 (val_main_v187 (F := Ideal) x wx wy)
          (val_main_cst_16 (F := Ideal) (Shape.Idx.first h_S_)) (ix5 b c k r q) := by
    pointwise [val_main_v188]
  rw [h2, h0]
  unfold Ideal.hostReduceAdd Hog.massOf
  rw [zero_add (M := EReal), Finset.sum_filter_eq_sum_of_fiber _ (fun p : Fin 8 × Fin 8 => (ix7 b c k r p.1 q p.2 : S16x3x9x48x8x48x8.Idx))
    (fun _ _ e => Prod.ext (congrFun e 4) (congrFun e 6)) (cell_fiber b c k r q)]
  refine Finset.sum_congr rfl fun p _ => ?_
  rw [h1, planes_read]

/-- The reference's result: entry `(b, r, q)` is one bin of one cell's histogram, divided by that histogram's length. -/
theorem result_read (b : Fin 16) (r : Fin 576) (q : Fin 108) (n : Fin 8 × Fin 8 → EReal) (k : Fin 8 × Fin 8 → ℕ)
    (hn : ∀ p, n p = val_main_v132 (F := Ideal) x wx wy (ix4 b ⟨q.val / 4 / 9, by omega⟩
      (pix ⟨r.val / 24 * 2 + q.val / 2 % 2, by omega⟩ p.1) (pix ⟨r.val % 24 * 2 + q.val % 2, by omega⟩ p.2)))
    (hk : ∀ p, k p = binAt x wx wy b ⟨q.val / 4 / 9, by omega⟩
      (pix ⟨r.val / 24 * 2 + q.val / 2 % 2, by omega⟩ p.1) (pix ⟨r.val % 24 * 2 + q.val % 2, by omega⟩ p.2)) :
    val_main_v201 (F := Ideal) x wx wy (ix3 b r q)
      = Ideal.div (Hog.massOf n fun p => k p = q.val / 4 % 9) (Hog.scale fun j : Fin 9 => Hog.massOf n fun p => k p = j.val) := by
  have h1 : val_main_v201 (F := Ideal) x wx wy (ix3 b r q)
      = val_main_v193 (F := Ideal) x wx wy (ix5 b ⟨q.val / 4 / 9, by omega⟩ ⟨q.val / 4 % 9, by omega⟩
          ⟨r.val / 24 * 2 + q.val / 2 % 2, by omega⟩ ⟨r.val % 24 * 2 + q.val % 2, by omega⟩) := by
    pointwise [val_main_v201, val_main_v200, val_main_v199, val_main_v198, val_main_v197, val_main_v196, val_main_v195, val_main_v194]
  obtain rfl : n = _ := funext hn
  obtain rfl : k = _ := funext hk
  rw [h1]
  generalize (⟨r.val / 24 * 2 + q.val / 2 % 2, by omega⟩ : Fin 48) = i
  generalize (⟨r.val % 24 * 2 + q.val % 2, by omega⟩ : Fin 48) = j
  generalize (⟨q.val / 4 / 9, by omega⟩ : Fin 3) = c
  pointwise [val_main_v193, val_main_v192, val_main_v191, val_main_v190, val_main_v189, val_main_call2_v2, val_main_call2_v1, val_main_call2_v0, val_main_call2_cst, val_main_cst_17]
  simp only [hist_read]
  rfl

end Cert.ReferenceIdeal.Hog

end
-- ==== Proof.Block.lean ====
module

public import proofs.«01_k».proof.Proof.Planes
public import proofs.«01_k».proof.Proof.Pool
public import Idealize.ShloMosaic.Lib.Pipeline.ValueKit.Tiles

@[expose] public section
set_option maxRecDepth 16384
noncomputable section

/-! Where the kernel puts the planes. Each of its 24 stores takes two rows of every plane, turns them, and
multiplies by two zero-one matrices that interleave even and odd cell columns. -/

namespace Cert.KernelIdeal.Hog

open Cert.KernelIdeal Cert.KernelIdeal.Gen Idealize.ShloMosaic Idealize.SL.Sem

variable (x : Vec Ideal S1x3x384x384 .f32)

/-- The loaded channel `c`. -/
def chan (c : Fin 3) : Vec Ideal S1x1x384x384 .f32 := fun i => x (ix4 0 c (i 2) (i 3))

theorem chan0 : View.ld x r0_0 = chan x 0 := by
  funext i
  rw [eq_ix4 i]
  pointwise [r0_0]
  rfl

theorem chan1 : View.ld x r0_1 = chan x 1 := by
  funext i
  rw [eq_ix4 i]
  pointwise [r0_1]
  rfl

theorem chan2 : View.ld x r0_2 = chan x 2 := by
  funext i
  rw [eq_ix4 i]
  pointwise [r0_2]
  rfl

/-- One stacked plane at its place in the stack. -/
theorem plane_at (p : Fin 27) (i j : Fin 48) (c : Fin 3) (k : Fin 9) (y : S1x48x48.Idx) (hp : p.val = 9 * c.val + k.val)
    (h1 : (y 1).val = i.val) (h2 : (y 2).val = j.val) :
    shapeCast S1x48x48 (plane (chan x c) k) shapeCasts_S48x48_S1x48x48 y =
      plane (chan x ⟨p.val / 9, by omega⟩) ⟨p.val % 9, by omega⟩ (ix2 i j) := by
  have hr : shapeCast S1x48x48 (plane (chan x c) k) shapeCasts_S48x48_S1x48x48 y = plane (chan x c) k (ix2 (y 1) (y 2)) := by
    rw [eq_ix3 y]
    pointwise []
  have ec : (⟨p.val / 9, by omega⟩ : Fin 3) = c := Fin.ext (by show p.val / 9 = c.val; omega)
  have ek : (⟨p.val % 9, by omega⟩ : Fin 9) = k := Fin.ext (by show p.val % 9 = k.val; omega)
  rw [hr, ec, ek, show y 1 = i from Fin.ext h1, show y 2 = j from Fin.ext h2]

/-- The stacked planes: plane `p` is bin `p % 9` of channel `p / 9`. -/
theorem stack_read (p : Fin 27) (i j : Fin 48) :
    k0_pay298 x (ix3 p i j) = plane (chan x ⟨p.val / 9, by omega⟩) ⟨p.val % 9, by omega⟩ (ix2 i j) := by
  unfold k0_pay298
  rw [plane0, plane1, plane2, plane3, plane4, plane5, plane6, plane7, plane8, plane9, plane10, plane11, plane12, plane13, plane14, plane15, plane16, plane17, plane18, plane19, plane20, plane21, plane22, plane23, plane24, plane25, plane26, chan0, chan1, chan2]
  unfold k0_pay173
  concat_tiles y h
  all_goals
    refine plane_at x p i j _ _ y ?_ h1 h2
    exact h

/-- The matrix that sends plane-row `a` to output column `2 a`. -/
theorem even_read (a : Fin 54) (q : Fin 108) : k0_pay174 (F := Ideal) (ix2 a q) = if q.val = 2 * a.val then 1 else 0 := by
  pointwise [k0_pay174]
  rw [ofCompare, show IntOp.muli 2#32 (BitVec.ofNat 32 a.val) = BitVec.ofNat 32 (2 * a.val) by rw [BitVec.ofNat_mul]; rfl]
  simp only [ofNat_inj _ _ (by omega : q.val < 2 ^ 32) (by omega : 2 * a.val < 2 ^ 32)]

/-- The matrix that sends plane-row `a` to output column `2 a + 1`. -/
theorem odd_read (a : Fin 54) (q : Fin 108) : k0_pay175 (F := Ideal) (ix2 a q) = if q.val = 2 * a.val + 1 then 1 else 0 := by
  pointwise [k0_pay175]
  rw [ofCompare, show IntOp.addi (IntOp.muli 2#32 (BitVec.ofNat 32 a.val)) 1#32 = BitVec.ofNat 32 (2 * a.val + 1) by
    rw [BitVec.ofNat_add, BitVec.ofNat_mul]; rfl]
  simp only [ofNat_inj _ _ (by omega : q.val < 2 ^ 32) (by omega : 2 * a.val + 1 < 2 ^ 32)]

/-- What store `n` holds: two interleaved halves of rows `2 n` and `2 n + 1` of all planes. -/
def mixed (H : FVec Ideal S27x48x48 .f32) (n : Fin 24) (i : Fin 24) (q : Fin 108) : EReal :=
  ∑ a : Fin 54, H (ix3 ⟨a.val / 2, by omega⟩ ⟨2 * n.val + a.val % 2, by omega⟩ ⟨i.val, by omega⟩) * k0_pay174 (F := Ideal) (ix2 a q)
    + ∑ a : Fin 54, H (ix3 ⟨a.val / 2, by omega⟩ ⟨2 * n.val + a.val % 2, by omega⟩ ⟨24 + i.val, by omega⟩) * k0_pay175 (F := Ideal) (ix2 a q)

/-- The interleaving, read off: output column `q` is plane `q / 4`, row `2 n + q / 2 % 2`, column `q % 2 * 24 + i`. -/
theorem mixed_read (H : FVec Ideal S27x48x48 .f32) (n : Fin 24) (i : Fin 24) (q : Fin 108) :
    mixed H n i q = H (ix3 ⟨q.val / 4, by omega⟩ ⟨2 * n.val + q.val / 2 % 2, by omega⟩ ⟨q.val % 2 * 24 + i.val, by omega⟩) := by
  unfold mixed
  have s : ∀ (f g : Fin 54 → EReal) (r : ℕ) (hr : q.val % 2 = r), (∀ a, g a = if q.val = 2 * a.val + r then 1 else 0) →
      ∑ a, f a * g a = f ⟨q.val / 2, by omega⟩ := fun f g r hr hg => by
    rw [Finset.sum_eq_single ⟨q.val / 2, by omega⟩]
    · rw [hg, if_pos (by show q.val = 2 * (q.val / 2) + r; omega), mul_one]
    · intro a _ ha
      rw [hg, if_neg fun h => ha (Fin.ext (by show a.val = q.val / 2; omega)), mul_zero]
    · exact fun h => absurd (Finset.mem_univ _) h
  have z : ∀ (f g : Fin 54 → EReal) (r : ℕ) (hr : q.val % 2 ≠ r) (h2 : r < 2), (∀ a, g a = if q.val = 2 * a.val + r then 1 else 0) →
      ∑ a, f a * g a = 0 := fun f g r hr h2 hg => by
    refine Finset.sum_eq_zero fun a _ => ?_
    rw [hg, if_neg (by omega), mul_zero]
  rcases Nat.mod_two_eq_zero_or_one q.val with h | h
  · rw [s _ _ 0 h (fun a => by rw [even_read]; rfl), z _ _ 1 (by omega) (by omega) (fun a => odd_read a q), add_zero]
    congr 2 <;> apply Fin.ext <;> show _ = _ <;> dsimp only <;> omega
  · rw [z _ _ 0 (by omega) (by omega) (fun a => by rw [even_read]; rfl), s _ _ 1 h (fun a => odd_read a q), zero_add]
    congr 2 <;> apply Fin.ext <;> show _ = _ <;> dsimp only <;> omega

theorem piece0 (i : Fin 24) (q : Fin 108) : k0_pay176 (k0_pay271 x) (k0_pay272 x) (k0_pay273 x) (k0_pay274 x) (k0_pay275 x) (k0_pay276 x) (k0_pay277 x) (k0_pay278 x) (k0_pay279 x) (k0_pay280 x) (k0_pay281 x) (k0_pay282 x) (k0_pay283 x) (k0_pay284 x) (k0_pay285 x) (k0_pay286 x) (k0_pay287 x) (k0_pay288 x) (k0_pay289 x) (k0_pay290 x) (k0_pay291 x) (k0_pay292 x) (k0_pay293 x) (k0_pay294 x) (k0_pay295 x) (k0_pay296 x) (k0_pay297 x) (ix3 0 i q) = mixed (k0_pay298 x) 0 i q := by
  pointwise [k0_pay176]
  rfl

theorem piece1 (i : Fin 24) (q : Fin 108) : k0_pay177 (k0_pay271 x) (k0_pay272 x) (k0_pay273 x) (k0_pay274 x) (k0_pay275 x) (k0_pay276 x) (k0_pay277 x) (k0_pay278 x) (k0_pay279 x) (k0_pay280 x) (k0_pay281 x) (k0_pay282 x) (k0_pay283 x) (k0_pay284 x) (k0_pay285 x) (k0_pay286 x) (k0_pay287 x) (k0_pay288 x) (k0_pay289 x) (k0_pay290 x) (k0_pay291 x) (k0_pay292 x) (k0_pay293 x) (k0_pay294 x) (k0_pay295 x) (k0_pay296 x) (k0_pay297 x) (ix3 0 i q) = mixed (k0_pay298 x) 1 i q := by
  pointwise [k0_pay177]
  rfl

theorem piece2 (i : Fin 24) (q : Fin 108) : k0_pay179 (k0_pay299 x) (k0_pay300 x) (k0_pay178 (k0_pay271 x) (k0_pay272 x) (k0_pay273 x) (k0_pay274 x) (k0_pay275 x) (k0_pay276 x) (k0_pay277 x) (k0_pay278 x) (k0_pay279 x) (k0_pay280 x) (k0_pay281 x) (k0_pay282 x) (k0_pay283 x) (k0_pay284 x) (k0_pay285 x) (k0_pay286 x) (k0_pay287 x) (k0_pay288 x) (k0_pay289 x) (k0_pay290 x) (k0_pay291 x) (k0_pay292 x) (k0_pay293 x) (k0_pay294 x) (k0_pay295 x) (k0_pay296 x) (k0_pay297 x)) (ix3 0 i q) = mixed (k0_pay298 x) 2 i q := by
  pointwise [k0_pay179, k0_pay178]
  rfl

theorem piece3 (i : Fin 24) (q : Fin 108) : k0_pay180 (k0_pay298 x) (k0_pay299 x) (k0_pay300 x) (ix3 0 i q) = mixed (k0_pay298 x) 3 i q := by
  pointwise [k0_pay180]
  rfl

theorem piece4 (i : Fin 24) (q : Fin 108) : k0_pay181 (k0_pay298 x) (k0_pay299 x) (k0_pay300 x) (ix3 0 i q) = mixed (k0_pay298 x) 4 i q := by
  pointwise [k0_pay181]
  rfl

theorem piece5 (i : Fin 24) (q : Fin 108) : k0_pay183 (k0_pay182 (k0_pay298 x) (k0_pay299 x) (k0_pay300 x)) (ix3 0 i q) = mixed (k0_pay298 x) 5 i q := by
  pointwise [k0_pay183, k0_pay182]
  rfl

theorem piece6 (i : Fin 24) (q : Fin 108) : k0_pay184 (k0_pay298 x) (k0_pay299 x) (k0_pay300 x) (ix3 0 i q) = mixed (k0_pay298 x) 6 i q := by
  pointwise [k0_pay184]
  rfl

theorem piece7 (i : Fin 24) (q : Fin 108) : k0_pay185 (k0_pay298 x) (k0_pay299 x) (k0_pay300 x) (ix3 0 i q) = mixed (k0_pay298 x) 7 i q := by
  pointwise [k0_pay185]
  rfl

theorem piece8 (i : Fin 24) (q : Fin 108) : k0_pay186 (k0_pay298 x) (k0_pay299 x) (k0_pay300 x) (ix3 0 i q) = mixed (k0_pay298 x) 8 i q := by
  pointwise [k0_pay186]
  rfl

theorem piece9 (i : Fin 24) (q : Fin 108) : k0_pay188 (k0_pay299 x) (k0_pay300 x) (k0_pay187 (k0_pay298 x)) (ix3 0 i q) = mixed (k0_pay298 x) 9 i q := by
  pointwise [k0_pay188, k0_pay187]
  rfl

theorem piece10 (i : Fin 24) (q : Fin 108) : k0_pay189 (k0_pay298 x) (k0_pay299 x) (k0_pay300 x) (ix3 0 i q) = mixed (k0_pay298 x) 10 i q := by
  pointwise [k0_pay189]
  rfl

theorem piece11 (i : Fin 24) (q : Fin 108) : k0_pay190 (k0_pay298 x) (k0_pay299 x) (k0_pay300 x) (ix3 0 i q) = mixed (k0_pay298 x) 11 i q := by
  pointwise [k0_pay190]
  rfl

theorem piece12 (i : Fin 24) (q : Fin 108) : k0_pay192 (k0_pay191 (k0_pay298 x) (k0_pay299 x) (k0_pay300 x)) (ix3 0 i q) = mixed (k0_pay298 x) 12 i q := by
  pointwise [k0_pay192, k0_pay191]
  rfl

theorem piece13 (i : Fin 24) (q : Fin 108) : k0_pay193 (k0_pay298 x) (k0_pay299 x) (k0_pay300 x) (ix3 0 i q) = mixed (k0_pay298 x) 13 i q := by
  pointwise [k0_pay193]
  rfl

theorem piece14 (i : Fin 24) (q : Fin 108) : k0_pay194 (k0_pay298 x) (k0_pay299 x) (k0_pay300 x) (ix3 0 i q) = mixed (k0_pay298 x) 14 i q := by
  pointwise [k0_pay194]
  rfl

theorem piece15 (i : Fin 24) (q : Fin 108) : k0_pay195 (k0_pay298 x) (k0_pay299 x) (k0_pay300 x) (ix3 0 i q) = mixed (k0_pay298 x) 15 i q := by
  pointwise [k0_pay195]
  rfl

theorem piece16 (i : Fin 24) (q : Fin 108) : k0_pay197 (k0_pay299 x) (k0_pay300 x) (k0_pay196 (k0_pay298 x)) (ix3 0 i q) = mixed (k0_pay298 x) 16 i q := by
  pointwise [k0_pay197, k0_pay196]
  rfl

theorem piece17 (i : Fin 24) (q : Fin 108) : k0_pay198 (k0_pay298 x) (k0_pay299 x) (k0_pay300 x) (ix3 0 i q) = mixed (k0_pay298 x) 17 i q := by
  pointwise [k0_pay198]
  rfl

theorem piece18 (i : Fin 24) (q : Fin 108) : k0_pay199 (k0_pay298 x) (k0_pay299 x) (k0_pay300 x) (ix3 0 i q) = mixed (k0_pay298 x) 18 i q := by
  pointwise [k0_pay199]
  rfl

theorem piece19 (i : Fin 24) (q : Fin 108) : k0_pay201 (k0_pay200 (k0_pay298 x) (k0_pay299 x) (k0_pay300 x)) (ix3 0 i q) = mixed (k0_pay298 x) 19 i q := by
  pointwise [k0_pay201, k0_pay200]
  rfl

theorem piece20 (i : Fin 24) (q : Fin 108) : k0_pay202 (k0_pay298 x) (k0_pay299 x) (k0_pay300 x) (ix3 0 i q) = mixed (k0_pay298 x) 20 i q := by
  pointwise [k0_pay202]
  rfl

theorem piece21 (i : Fin 24) (q : Fin 108) : k0_pay203 (k0_pay298 x) (k0_pay299 x) (k0_pay300 x) (ix3 0 i q) = mixed (k0_pay298 x) 21 i q := by
  pointwise [k0_pay203]
  rfl

theorem piece22 (i : Fin 24) (q : Fin 108) : k0_pay204 (k0_pay298 x) (k0_pay299 x) (k0_pay300 x) (ix3 0 i q) = mixed (k0_pay298 x) 22 i q := by
  pointwise [k0_pay204]
  rfl

theorem piece23 (i : Fin 24) (q : Fin 108) : k0_pay1 (k0_pay299 x) (k0_pay300 x) (k0_pay205 (k0_pay298 x)) (k0_pay206 (k0_pay298 x)) (ix3 0 i q) = mixed (k0_pay298 x) 23 i q := by
  pointwise [k0_pay1, k0_pay205, k0_pay206]
  rfl

/-- One store at its place in the block. -/
theorem place (r : Fin 576) (q : Fin 108) (n : Fin 24) (P : Vec Ideal S1x24x108 .f32)
    (hP : ∀ i q, P (ix3 0 i q) = mixed (k0_pay298 x) n i q) (y : S1x24x108.Idx) (h1 : r.val = 24 * n.val + (y 1).val)
    (h2 : q.val = (y 2).val) :
    P y = plane (chan x ⟨q.val / 4 / 9, by omega⟩) ⟨q.val / 4 % 9, by omega⟩
      (ix2 ⟨2 * (r.val / 24) + q.val / 2 % 2, by omega⟩ ⟨q.val % 2 * 24 + r.val % 24, by omega⟩) := by
  obtain ⟨a, i, k, rfl⟩ : ∃ (a : Fin 1) (i : Fin 24) (k : Fin 108), y = ix3 a i k := ⟨y 0, y 1, y 2, eq_ix3 y⟩
  obtain rfl : a = 0 := Subsingleton.elim _ _
  change r.val = 24 * n.val + i.val at h1
  obtain rfl : q = k := Fin.ext h2
  rw [hP, mixed_read, stack_read]
  congr 2 <;> apply Fin.ext
  · show 2 * n.val + q.val / 2 % 2 = 2 * (r.val / 24) + q.val / 2 % 2
    omega
  · show q.val % 2 * 24 + i.val = q.val % 2 * 24 + r.val % 24
    omega

/-- The block one grid point writes, read at an output row and column. -/
theorem out_read (r : Fin 576) (q : Fin 108) :
    out0_1 x (ix3 0 r q) = plane (chan x ⟨q.val / 4 / 9, by omega⟩) ⟨q.val / 4 % 9, by omega⟩
      (ix2 ⟨2 * (r.val / 24) + q.val / 2 % 2, by omega⟩ ⟨q.val % 2 * 24 + r.val % 24, by omega⟩) := by
  unfold out0_1
  canon_tiles y h
  · exact place x r q 23 _ (piece23 x) y h1 h2
  · exact place x r q 22 _ (piece22 x) y h1 h2
  · exact place x r q 21 _ (piece21 x) y h1 h2
  · exact place x r q 20 _ (piece20 x) y h1 h2
  · exact place x r q 19 _ (piece19 x) y h1 h2
  · exact place x r q 18 _ (piece18 x) y h1 h2
  · exact place x r q 17 _ (piece17 x) y h1 h2
  · exact place x r q 16 _ (piece16 x) y h1 h2
  · exact place x r q 15 _ (piece15 x) y h1 h2
  · exact place x r q 14 _ (piece14 x) y h1 h2
  · exact place x r q 13 _ (piece13 x) y h1 h2
  · exact place x r q 12 _ (piece12 x) y h1 h2
  · exact place x r q 11 _ (piece11 x) y h1 h2
  · exact place x r q 10 _ (piece10 x) y h1 h2
  · exact place x r q 9 _ (piece9 x) y h1 h2
  · exact place x r q 8 _ (piece8 x) y h1 h2
  · exact place x r q 7 _ (piece7 x) y h1 h2
  · exact place x r q 6 _ (piece6 x) y h1 h2
  · exact place x r q 5 _ (piece5 x) y h1 h2
  · exact place x r q 4 _ (piece4 x) y h1 h2
  · exact place x r q 3 _ (piece3 x) y h1 h2
  · exact place x r q 2 _ (piece2 x) y h1 h2
  · exact place x r q 1 _ (piece1 x) y h1 h2
  · exact place x r q 0 _ (piece0 x) y (h1.trans (Nat.zero_add _).symm) h2

end Cert.KernelIdeal.Hog
end
-- ==== Proof.KernelArray.lean ====
module

public import proofs.«01_k».proof.Proof.Block
public import proofs.«01_k».proof.Proof.Plane
public import proofs.«01_k».proof.Proof.Gen.KernelIdeal.Value
public import Idealize.ShloMosaic.Lib.Pipeline.ValueKit

@[expose] public section
set_option maxRecDepth 16384
noncomputable section

/-! The kernel's result array. Grid point `b` loads image `b` and writes slab `b` of the result, so the array
holds at `(b, r, q)` what one block holds at `(0, r, q)` for image `b`. -/

namespace Cert.KernelIdeal.Hog

open Cert.KernelIdeal Cert.KernelIdeal.Gen Idealize.ShloMosaic Idealize.ShloMosaic.TcCoe Idealize.SL.Sem

/-- Image `b` of the batch, as a block. -/
def imageBlock (x : Vec Ideal S16x3x384x384 .f32) (b : Fin 16) : Vec Ideal S1x3x384x384 .f32 :=
  fun i => x (ix4 b (i 1) (i 2) (i 3))

/-- The whole result array, as a function of the input batch. -/
def result (x : Vec Ideal S16x3x384x384 .f32) : Vec Ideal S16x576x108 .f32 :=
  fun i => out0_1 (imageBlock x (i 0)) (ix3 0 (i 1) (i 2))

variable (m : (ℓ : Loc nD τ sig) → Buf (Elt Ideal) ℓ) (c : Dev nD)

theorem index0 : ∀ t : Fin cfg0.N, win0_0.index t = ![(grid0.coords t 0).val, 0, 0, 0] :=
  (by decide +kernel : ∀ t : Fin grid0.N, win0_0.index t = ![(grid0.coords t 0).val, 0, 0, 0])

theorem index1 : ∀ t : Fin cfg0.N, win0_1.index t = ![(grid0.coords t 0).val, 0, 0] :=
  (by decide +kernel : ∀ t : Fin grid0.N, win0_1.index t = ![(grid0.coords t 0).val, 0, 0])

/-- What grid point `t` loads is image `t` of the batch. -/
theorem block_eq (t : Fin cfg0.N) :
    iblk m c 0 t = imageBlock (m ((c : Thread nD τ).loc main_arg0)) ⟨(grid0.coords t 0).val, (grid0.coords t 0).isLt⟩ := by
  funext y
  unfold imageBlock
  blk_ext [iblk, V, index0 t]

/-- After the run the array holds `result` of the batch. -/
theorem array_eq :
    (dats m 0 c).arrAt 1 cfg0.N = result (m ((c : Thread nD τ).loc main_arg0)) := by
  refine (dats m 0 c).arrAt_eq_of_covers 1 _ (by decide +kernel) fun t hf y => ?_
  blk_simp
  rw [after0_1]
  rw [block_eq m c t]
  unfold result
  have e0 : ((win0_1.blk t).view.emb y) 0 = (⟨(grid0.coords t 0).val, (grid0.coords t 0).isLt⟩ : Fin 16) := by
    apply Fin.ext
    blk_simp [index1 t]
  rw [e0]
  blk_ext [index1 t]

end Cert.KernelIdeal.Hog

end
-- ==== Proof.Equation.lean ====
module

public import proofs.«01_k».proof.Proof.Edges
public import proofs.«01_k».proof.Proof.RefHist
public import proofs.«01_k».proof.Proof.KernelArray

@[expose] public section
set_option maxRecDepth 16384
noncomputable section

/-! The equation: where the weights are the Sobel stencils and the mask is set, the kernel's entry is the
reference's. -/

namespace Cert.Equation

open Idealize.ShloMosaic Idealize.SL.Sem
open Cert.KernelIdeal.Hog (pix cellCol counts chan imageBlock result image plane)
open Cert.ReferenceIdeal.Hog (binAt)
open Cert.ReferenceIdeal.Read
open Cert.ReferenceIdeal (S16x3x384x384 S3x1x3x3)

variable [Cert.Pre_sobel_weights.Facts] [Cert.On_clear_of_edges.Facts]
variable (x : FVec Ideal S16x3x384x384 .f32) (wx wy : FVec Ideal S3x1x3x3 .f32)

/-- Channel `c` of image `b`. -/
def picture (b : Fin 16) (c : Fin 3) (i j : Fin 384) : EReal := x (ix4 b c i j)

theorem refX (hw : Cert.Pre_sobel_weights.fn (F := Ideal) x wx wy = fun _ => 1#1) (b : Fin 16) (c : Fin 3) (i j : Fin 384) :
    val_main_v64 (F := Ideal) x wx (ix4 b c i j) = Hog.correlate Hog.sobelX (picture x b c) i j := by
  rw [Cert.ReferenceIdeal.Hog.gx_raw]
  congr 1
  funext a d
  exact Cert.Pre_sobel_weights.Hog.weightsX x wx wy hw c a d

theorem refY (hw : Cert.Pre_sobel_weights.fn (F := Ideal) x wx wy = fun _ => 1#1) (b : Fin 16) (c : Fin 3) (i j : Fin 384) :
    val_main_v128 (F := Ideal) x wy (ix4 b c i j) = Hog.correlate Hog.sobelY (picture x b c) i j := by
  rw [Cert.ReferenceIdeal.Hog.gy_raw]
  congr 1
  funext a d
  exact Cert.Pre_sobel_weights.Hog.weightsY x wx wy hw c a d

/-- Both programs give a pixel the same gradient length. -/
theorem norm_eq (hw : Cert.Pre_sobel_weights.fn (F := Ideal) x wx wy = fun _ => 1#1) (b : Fin 16) (c : Fin 3) (i j : Fin 384) :
    val_main_v132 (F := Ideal) x wx wy (ix4 b c i j)
      = Cert.KernelIdeal.Gen.k0_pay5 (chan (imageBlock x b) c) (ix2 i j) := by
  rw [Cert.ReferenceIdeal.Hog.norm_read, refX x wx wy hw, refY x wx wy hw, Cert.KernelIdeal.Hog.mag_read]
  change _ = Hog.mag (Hog.gradX (picture x b c) i j) (Hog.gradY (picture x b c) i j)
  rcases Hog.grad_cases (picture x b c) i j with ⟨p, q, ⟨h1, h2⟩, h3, h4⟩ | ⟨h1, h2⟩
  · rw [h1, h2, h3, h4]
  · rw [h1, h2]

/-- At a pixel clear of the edges whose gradient is finite and not zero, the kernel counts edge `k` exactly when the
reference's bin is at least `k`. -/
theorem above_iff (hw : Cert.Pre_sobel_weights.fn (F := Ideal) x wx wy = fun _ => 1#1) (b : Fin 16) (c : Fin 3) (i j : Fin 384)
    (hm : ∀ k : Fin 9, k ≠ 0 → ¬ Cert.On_clear_of_edges.Hog.between ((Real.pi : ℝ) : EReal) k
      (Ideal.div (val_main_v128 (F := Ideal) x wy (ix4 b c i j)) (val_main_v64 (F := Ideal) x wx (ix4 b c i j))))
    (ht : Cert.KernelIdeal.Gen.k0_pay5 (chan (imageBlock x b) c) (ix2 i j) ≠ ⊤)
    (h0 : Cert.KernelIdeal.Gen.k0_pay5 (chan (imageBlock x b) c) (ix2 i j) ≠ 0) (k : Fin 9) :
    counts k (Cert.KernelIdeal.Gen.k0_pay6 (chan (imageBlock x b) c) (ix2 i j)) ↔ k.val ≤ binAt x wx wy b c i j := by
  unfold binAt
  rw [refX x wx wy hw, refY x wx wy hw] at hm ⊢
  rw [Cert.KernelIdeal.Hog.mag_read] at ht h0
  rw [Cert.KernelIdeal.Hog.slope_read]
  change Hog.mag (Hog.gradX (picture x b c) i j) (Hog.gradY (picture x b c) i j) ≠ ⊤ at ht
  change Hog.mag (Hog.gradX (picture x b c) i j) (Hog.gradY (picture x b c) i j) ≠ 0 at h0
  change counts k (Hog.slope (Hog.gradX (picture x b c) i j) (Hog.gradY (picture x b c) i j)) ↔ _
  rcases Hog.grad_cases (picture x b c) i j with ⟨p, q, ⟨h1, h2⟩, h3, h4⟩ | ⟨h1, _⟩
  · rw [h2, h4] at hm ⊢
    rw [h1, h3] at h0 ⊢
    refine Cert.On_clear_of_edges.Hog.counts_iff p q ?_ k (hm k)
    by_contra hz
    push Not at hz
    refine h0 ?_
    rw [Hog.mag_coe, hz.1, hz.2]
    simp
  · exact absurd h1 ht

/-- The mask, read: the quotient of the reference's gradients is clear of every edge at every pixel of the cell. -/
theorem clear (b : Fin 16) (r : Fin 576) (q : Fin 108)
    (hm : Cert.On_clear_of_edges.fn (F := Ideal) x wx wy (ix3 b r q) = 1#1) (p : Fin 8 × Fin 8) (k : Fin 9) (hk : k ≠ 0) :
    ¬ Cert.On_clear_of_edges.Hog.between ((Real.pi : ℝ) : EReal) k
      (Ideal.div (val_main_v128 (F := Ideal) x wy (ix4 b ⟨q.val / 4 / 9, by omega⟩
          (pix ⟨r.val / 24 * 2 + q.val / 2 % 2, by omega⟩ p.1) (pix ⟨r.val % 24 * 2 + q.val % 2, by omega⟩ p.2)))
        (val_main_v64 (F := Ideal) x wx (ix4 b ⟨q.val / 4 / 9, by omega⟩
          (pix ⟨r.val / 24 * 2 + q.val / 2 % 2, by omega⟩ p.1) (pix ⟨r.val % 24 * 2 + q.val % 2, by omega⟩ p.2)))) := by
  rw [Cert.On_clear_of_edges.Hog.fn_eq] at hm
  have h := Cert.On_clear_of_edges.Hog.ofSlopes_read _ _ b r q hm p k hk
  have e : Host.atan2 (F := Ideal) (constant Cert.On_clear_of_edges.S_ .f32 0x00000000#32)
      (constant Cert.On_clear_of_edges.S_ .f32 0xBF800000#32) ix0 = ((Real.pi : ℝ) : EReal) := by
    rw [← Hog.half_turn, ← Ideal.ofBits_zero_f32]
    rfl
  rw [e] at h
  exact h

/-- Where the mask is set, the reference's entry is the kernel's. -/
theorem entry_eq (hw : Cert.Pre_sobel_weights.fn (F := Ideal) x wx wy = fun _ => 1#1) (b : Fin 16) (r : Fin 576) (q : Fin 108)
    (hm : Cert.On_clear_of_edges.fn (F := Ideal) x wx wy (ix3 b r q) = 1#1) :
    result x (ix3 b r q) = val_main_v201 (F := Ideal) x wx wy (ix3 b r q) := by
  have hc := clear x wx wy b r q hm
  rw [Cert.ReferenceIdeal.Hog.result_read x wx wy b r q _ _ (fun p => rfl) (fun p => rfl)]
  have ei : (⟨2 * (r.val / 24) + q.val / 2 % 2, by omega⟩ : Fin 48) = ⟨r.val / 24 * 2 + q.val / 2 % 2, by omega⟩ :=
    Fin.ext (by dsimp only; omega)
  have ej : cellCol ⟨q.val % 2 * 24 + r.val % 24, by omega⟩ = ⟨r.val % 24 * 2 + q.val % 2, by omega⟩ :=
    Fin.ext (by unfold cellCol; dsimp only; omega)
  change Cert.KernelIdeal.Gen.out0_1 (imageBlock x b) (ix3 0 r q) = _
  rw [Cert.KernelIdeal.Hog.out_read, Cert.KernelIdeal.Hog.plane_cell, ei, ej]
  revert hc
  generalize (⟨r.val / 24 * 2 + q.val / 2 % 2, by omega⟩ : Fin 48) = i
  generalize (⟨r.val % 24 * 2 + q.val % 2, by omega⟩ : Fin 48) = j
  generalize (⟨q.val / 4 / 9, by omega⟩ : Fin 3) = c
  intro hc
  refine Hog.cell_eq _ _ ?_ ?_ _ ?_ _ ?_ ?_ ⟨q.val / 4 % 9, by omega⟩
  · intro p
    rw [Cert.KernelIdeal.Hog.mag_read]
    exact Hog.mag_nonneg _ _
  · exact fun p => norm_eq x wx wy hw b c _ _
  · exact fun p => Cert.ReferenceIdeal.Hog.binAt_lt x wx wy b c _ _
  · exact fun p => Or.inl rfl
  · exact fun ht k p h0 => above_iff x wx wy hw b c _ _ (hc p) (ht p) h0 k

end Cert.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.ShloMosaic.TcCoe Idealize.SL.Sem

/-- Every execution of the kernel ends with its arguments unchanged and its semaphores zero. -/
theorem frame_p : Cert.quiescent_Kernel := fun m ρ _ => Cert.Kernel.Gen.frame m ρ

/-- The same of the ideal kernel. -/
theorem frame_pi : Cert.quiescent_KernelIdeal := fun m ρ _ => Cert.KernelIdeal.Gen.frame m ρ

/-- The same of the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

section Value

variable [Cert.Pre_sobel_weights.Facts]

theorem frame_pi_pre : Cert.quiescent_KernelIdeal_pre_sobel_weights := fun m ρ _ => Cert.KernelIdeal.Gen.frame m ρ

theorem frame_ri_pre : Cert.quiescent_ReferenceIdeal_pre_sobel_weights := fun m ρ _ => frame_ri m ρ trivial

/-- The ideal kernel's run leaves in its result array the array of image blocks' results, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v0)
            = Cert.KernelIdeal.Hog.result (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2) :=
  (θ_run Cert.KernelIdeal.defs _ _).mono
    (fun _ h c => ⟨(h c).1.trans (Cert.KernelIdeal.Hog.array_eq m c), (h c).2⟩)
    (Cert.KernelIdeal.Value.run_blocks m ρ)

/-- The value claim: where the filters are the Sobel stencils, kernel and reference agree at every marked element. -/
theorem algebraic [Cert.On_clear_of_edges.Facts] : Cert.algebraic_KernelIdeal_ReferenceIdeal_on_clear_of_edges_pre_sobel_weights := by
  intro m ρ m' ρ' hpre hagree
  refine ⟨fun c => Cert.KernelIdeal.Hog.result (m ((c.tc : Thread Cert.KernelIdeal.nD Cert.KernelIdeal.τ).loc Cert.KernelIdeal.main_arg0)), ?_, ?_⟩
  · exact (θ_run Cert.KernelIdeal.defs _ _).mono (fun _ h c => ⟨fun i _ => congrFun (h c).1 i, (h c).2⟩) (kernel_run m ρ)
  refine (θ_run Cert.ReferenceIdeal.defs _ _).mono (fun _ h c => ⟨fun i hi => (congrFun ((h c).1.trans ?_) i).trans
      (?_ : Cert.ReferenceIdeal.Read.val_main_v201 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) i = _), (h c).2⟩)
    (Cert.ReferenceIdeal.Value.run (F := Ideal) m' ρ')
  · rw [eq_ix3 i] at hi ⊢
    exact (Cert.Equation.entry_eq _ _ _ (hpre c) _ _ _ hi).symm
  · refine (Cert.ReferenceIdeal.Read.val_main_v201_eq _).trans ?_
    rw [Idealize.ShloMosaic.StableHlo.launchContents_devRef, Idealize.ShloMosaic.StableHlo.launchContents_devRef,
      Idealize.ShloMosaic.StableHlo.launchContents_devRef, (hagree c).1, (hagree c).2.1, (hagree c).2.2]

end Value

theorem claim : Cert.Claim :=
  ⟨Cert.Kernel.Gen.facts, Cert.KernelIdeal.Gen.facts, Cert.ReferenceIdeal.Gen.facts,
    Cert.Pre_sobel_weights.Hog.facts, Cert.On_clear_of_edges.Hog.facts,
    frame_p, frame_pi, @frame_pi_pre Cert.Pre_sobel_weights.Hog.facts, frame_ri,
    @frame_ri_pre Cert.Pre_sobel_weights.Hog.facts, trivial,
    @algebraic Cert.Pre_sobel_weights.Hog.facts Cert.On_clear_of_edges.Hog.facts⟩

end Cert.Proof

end
